-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S32768x2048 : Shape := ⟨2, ![32768, 2048]⟩
abbrev S2048x2048 : Shape := ⟨2, ![2048, 2048]⟩
abbrev S2x2 : Shape := ⟨2, ![2, 2]⟩
abbrev S8x2 : Shape := ⟨2, ![8, 2]⟩
abbrev S_ : Shape := ⟨0, ![]⟩
abbrev S1024x1024 : Shape := ⟨2, ![1024, 1024]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S32768x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_84 : BitVec 32 := 1#32
  let v99 : BitVec 32 := Scalar.muli v97 c1_i32_84
  let v100 : BitVec 32 := Scalar.addi c0_i32_85 v99
  v100.toNat
def k0_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_87 : BitVec 32 := 1#32
  let v101 : BitVec 32 := Scalar.muli v64 c1_i32_87
  let v102 : BitVec 32 := Scalar.addi c0_i32_88 v101
  v102.toNat
def k0_off1 (d0 : Dev nD) (c0_i32_95 : BitVec 32) (c0_i32_129 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v113 : BitVec 32 := Scalar.subi v32 c0_i32_95
  let c16_i32_96 : BitVec 32 := 16#32
  let v114 : BitVec 32 := Scalar.addi v113 c16_i32_96
  let c16_i32_97 : BitVec 32 := 16#32
  let v115 : BitVec 32 := Scalar.remsi v114 c16_i32_97
  let c15_i32_127 : BitVec 32 := 15#32
  let v144 : BitVec 1 := Scalar.cmpi .eq v115 c15_i32_127
  let c4_i32_128 : BitVec 32 := 4#32
  let c14_i32_125 : BitVec 32 := 14#32
  let v142 : BitVec 1 := Scalar.cmpi .eq v115 c14_i32_125
  let c8_i32_126 : BitVec 32 := 8#32
  let c13_i32_123 : BitVec 32 := 13#32
  let v140 : BitVec 1 := Scalar.cmpi .eq v115 c13_i32_123
  let c12_i32_124 : BitVec 32 := 12#32
  let c12_i32_121 : BitVec 32 := 12#32
  let v138 : BitVec 1 := Scalar.cmpi .eq v115 c12_i32_121
  let c15_i32_122 : BitVec 32 := 15#32
  let c11_i32_119 : BitVec 32 := 11#32
  let v136 : BitVec 1 := Scalar.cmpi .eq v115 c11_i32_119
  let c11_i32_120 : BitVec 32 := 11#32
  let c10_i32_117 : BitVec 32 := 10#32
  let v134 : BitVec 1 := Scalar.cmpi .eq v115 c10_i32_117
  let c7_i32_118 : BitVec 32 := 7#32
  let c9_i32_115 : BitVec 32 := 9#32
  let v132 : BitVec 1 := Scalar.cmpi .eq v115 c9_i32_115
  let c3_i32_116 : BitVec 32 := 3#32
  let c8_i32_113 : BitVec 32 := 8#32
  let v130 : BitVec 1 := Scalar.cmpi .eq v115 c8_i32_113
  let c2_i32_114 : BitVec 32 := 2#32
  let c7_i32_111 : BitVec 32 := 7#32
  let v128 : BitVec 1 := Scalar.cmpi .eq v115 c7_i32_111
  let c6_i32_112 : BitVec 32 := 6#32
  let c6_i32_109 : BitVec 32 := 6#32
  let v126 : BitVec 1 := Scalar.cmpi .eq v115 c6_i32_109
  let c10_i32_110 : BitVec 32 := 10#32
  let c5_i32_107 : BitVec 32 := 5#32
  let v124 : BitVec 1 := Scalar.cmpi .eq v115 c5_i32_107
  let c14_i32_108 : BitVec 32 := 14#32
  let c4_i32_105 : BitVec 32 := 4#32
  let v122 : BitVec 1 := Scalar.cmpi .eq v115 c4_i32_105
  let c13_i32_106 : BitVec 32 := 13#32
  let c3_i32_103 : BitVec 32 := 3#32
  let v120 : BitVec 1 := Scalar.cmpi .eq v115 c3_i32_103
  let c9_i32_104 : BitVec 32 := 9#32
  let c2_i32_101 : BitVec 32 := 2#32
  let v118 : BitVec 1 := Scalar.cmpi .eq v115 c2_i32_101
  let c5_i32_102 : BitVec 32 := 5#32
  let c1_i32_98 : BitVec 32 := 1#32
  let v116 : BitVec 1 := Scalar.cmpi .eq v115 c1_i32_98
  let c1_i32_99 : BitVec 32 := 1#32
  let c0_i32_100 : BitVec 32 := 0#32
  let v117 : BitVec 32 := Scalar.select v116 c1_i32_99 c0_i32_100
  let v119 : BitVec 32 := Scalar.select v118 c5_i32_102 v117
  let v121 : BitVec 32 := Scalar.select v120 c9_i32_104 v119
  let v123 : BitVec 32 := Scalar.select v122 c13_i32_106 v121
  let v125 : BitVec 32 := Scalar.select v124 c14_i32_108 v123
  let v127 : BitVec 32 := Scalar.select v126 c10_i32_110 v125
  let v129 : BitVec 32 := Scalar.select v128 c6_i32_112 v127
  let v131 : BitVec 32 := Scalar.select v130 c2_i32_114 v129
  let v133 : BitVec 32 := Scalar.select v132 c3_i32_116 v131
  let v135 : BitVec 32 := Scalar.select v134 c7_i32_118 v133
  let v137 : BitVec 32 := Scalar.select v136 c11_i32_120 v135
  let v139 : BitVec 32 := Scalar.select v138 c15_i32_122 v137
  let v141 : BitVec 32 := Scalar.select v140 c12_i32_124 v139
  let v143 : BitVec 32 := Scalar.select v142 c8_i32_126 v141
  let v145 : BitVec 32 := Scalar.select v144 c4_i32_128 v143
  let c2048_i32 : BitVec 32 := 2048#32
  let v146 : BitVec 32 := Scalar.muli v145 c2048_i32
  let v147 : BitVec 32 := Scalar.addi v146 c0_i32_129
  let c0_i32_136 : BitVec 32 := 0#32
  ![v147.toNat, 0]
def k0_off1_at (r : Fin 17) : BitVec 32 × BitVec 32 :=
  if r.val < 8 then
    if r.val < 4 then
      if r.val < 2 then
        if r.val < 1 then
          (0#32, 0#32)
        else
          (0#32, 1024#32)
      else
        if r.val < 3 then
          (1#32, 0#32)
        else
          (1#32, 1024#32)
    else
      if r.val < 6 then
        if r.val < 5 then
          (2#32, 0#32)
        else
          (2#32, 1024#32)
      else
        if r.val < 7 then
          (3#32, 0#32)
        else
          (3#32, 1024#32)
  else
    if r.val < 12 then
      if r.val < 10 then
        if r.val < 9 then
          (4#32, 0#32)
        else
          (4#32, 1024#32)
      else
        if r.val < 11 then
          (5#32, 0#32)
        else
          (5#32, 1024#32)
    else
      if r.val < 14 then
        if r.val < 13 then
          (6#32, 0#32)
        else
          (6#32, 1024#32)
      else
        if r.val < 15 then
          (7#32, 0#32)
        else
          if r.val < 16 then
            (7#32, 1024#32)
          else
            (8#32, 0#32)
def k0_dev3 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_134 : BitVec 32 := 1#32
  let v148 : BitVec 32 := Scalar.muli v64 c1_i32_134
  let v149 : BitVec 32 := Scalar.addi c0_i32_135 v148
  v149.toNat
def k0_off2 (d0 : Dev nD) (c0_i32_139 : BitVec 32) (c0_i32_173 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v156 : BitVec 32 := Scalar.addi v32 c0_i32_139
  let c16_i32_140 : BitVec 32 := 16#32
  let v157 : BitVec 32 := Scalar.remsi v156 c16_i32_140
  let c15_i32_170 : BitVec 32 := 15#32
  let v186 : BitVec 1 := Scalar.cmpi .eq v157 c15_i32_170
  let c4_i32_171 : BitVec 32 := 4#32
  let c14_i32_168 : BitVec 32 := 14#32
  let v184 : BitVec 1 := Scalar.cmpi .eq v157 c14_i32_168
  let c8_i32_169 : BitVec 32 := 8#32
  let c13_i32_166 : BitVec 32 := 13#32
  let v182 : BitVec 1 := Scalar.cmpi .eq v157 c13_i32_166
  let c12_i32_167 : BitVec 32 := 12#32
  let c12_i32_164 : BitVec 32 := 12#32
  let v180 : BitVec 1 := Scalar.cmpi .eq v157 c12_i32_164
  let c15_i32_165 : BitVec 32 := 15#32
  let c11_i32_162 : BitVec 32 := 11#32
  let v178 : BitVec 1 := Scalar.cmpi .eq v157 c11_i32_162
  let c11_i32_163 : BitVec 32 := 11#32
  let c10_i32_160 : BitVec 32 := 10#32
  let v176 : BitVec 1 := Scalar.cmpi .eq v157 c10_i32_160
  let c7_i32_161 : BitVec 32 := 7#32
  let c9_i32_158 : BitVec 32 := 9#32
  let v174 : BitVec 1 := Scalar.cmpi .eq v157 c9_i32_158
  let c3_i32_159 : BitVec 32 := 3#32
  let c8_i32_156 : BitVec 32 := 8#32
  let v172 : BitVec 1 := Scalar.cmpi .eq v157 c8_i32_156
  let c2_i32_157 : BitVec 32 := 2#32
  let c7_i32_154 : BitVec 32 := 7#32
  let v170 : BitVec 1 := Scalar.cmpi .eq v157 c7_i32_154
  let c6_i32_155 : BitVec 32 := 6#32
  let c6_i32_152 : BitVec 32 := 6#32
  let v168 : BitVec 1 := Scalar.cmpi .eq v157 c6_i32_152
  let c10_i32_153 : BitVec 32 := 10#32
  let c5_i32_150 : BitVec 32 := 5#32
  let v166 : BitVec 1 := Scalar.cmpi .eq v157 c5_i32_150
  let c14_i32_151 : BitVec 32 := 14#32
  let c4_i32_148 : BitVec 32 := 4#32
  let v164 : BitVec 1 := Scalar.cmpi .eq v157 c4_i32_148
  let c13_i32_149 : BitVec 32 := 13#32
  let c3_i32_146 : BitVec 32 := 3#32
  let v162 : BitVec 1 := Scalar.cmpi .eq v157 c3_i32_146
  let c9_i32_147 : BitVec 32 := 9#32
  let c2_i32_144 : BitVec 32 := 2#32
  let v160 : BitVec 1 := Scalar.cmpi .eq v157 c2_i32_144
  let c5_i32_145 : BitVec 32 := 5#32
  let c1_i32_141 : BitVec 32 := 1#32
  let v158 : BitVec 1 := Scalar.cmpi .eq v157 c1_i32_141
  let c1_i32_142 : BitVec 32 := 1#32
  let c0_i32_143 : BitVec 32 := 0#32
  let v159 : BitVec 32 := Scalar.select v158 c1_i32_142 c0_i32_143
  let v161 : BitVec 32 := Scalar.select v160 c5_i32_145 v159
  let v163 : BitVec 32 := Scalar.select v162 c9_i32_147 v161
  let v165 : BitVec 32 := Scalar.select v164 c13_i32_149 v163
  let v167 : BitVec 32 := Scalar.select v166 c14_i32_151 v165
  let v169 : BitVec 32 := Scalar.select v168 c10_i32_153 v167
  let v171 : BitVec 32 := Scalar.select v170 c6_i32_155 v169
  let v173 : BitVec 32 := Scalar.select v172 c2_i32_157 v171
  let v175 : BitVec 32 := Scalar.select v174 c3_i32_159 v173
  let v177 : BitVec 32 := Scalar.select v176 c7_i32_161 v175
  let v179 : BitVec 32 := Scalar.select v178 c11_i32_163 v177
  let v181 : BitVec 32 := Scalar.select v180 c15_i32_165 v179
  let v183 : BitVec 32 := Scalar.select v182 c12_i32_167 v181
  let v185 : BitVec 32 := Scalar.select v184 c8_i32_169 v183
  let v187 : BitVec 32 := Scalar.select v186 c4_i32_171 v185
  let c2048_i32_172 : BitVec 32 := 2048#32
  let v188 : BitVec 32 := Scalar.muli v187 c2048_i32_172
  let v189 : BitVec 32 := Scalar.addi v188 c0_i32_173
  let c0_i32_180 : BitVec 32 := 0#32
  ![v189.toNat, 0]
def k0_off2_at (r : Fin 17) : BitVec 32 × BitVec 32 :=
  if r.val < 8 then
    if r.val < 4 then
      if r.val < 2 then
        if r.val < 1 then
          (0#32, 0#32)
        else
          (0#32, 1024#32)
      else
        if r.val < 3 then
          (1#32, 0#32)
        else
          (1#32, 1024#32)
    else
      if r.val < 6 then
        if r.val < 5 then
          (2#32, 0#32)
        else
          (2#32, 1024#32)
      else
        if r.val < 7 then
          (3#32, 0#32)
        else
          (3#32, 1024#32)
  else
    if r.val < 12 then
      if r.val < 10 then
        if r.val < 9 then
          (4#32, 0#32)
        else
          (4#32, 1024#32)
      else
        if r.val < 11 then
          (5#32, 0#32)
        else
          (5#32, 1024#32)
    else
      if r.val < 14 then
        if r.val < 13 then
          (6#32, 0#32)
        else
          (6#32, 1024#32)
      else
        if r.val < 15 then
          (7#32, 0#32)
        else
          if r.val < 16 then
            (7#32, 1024#32)
          else
            (8#32, 1024#32)
def k0_dev4 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_178 : BitVec 32 := 1#32
  let v190 : BitVec 32 := Scalar.muli v97 c1_i32_178
  let v191 : BitVec 32 := Scalar.addi c0_i32_179 v190
  v191.toNat
def k0_dev5 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_224 : BitVec 32 := 1#32
  let v239 : BitVec 32 := Scalar.muli v64 c1_i32_224
  let v240 : BitVec 32 := Scalar.addi c0_i32_225 v239
  v240.toNat
def k0_dev6 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_268 : BitVec 32 := 1#32
  let v281 : BitVec 32 := Scalar.muli v97 c1_i32_268
  let v282 : BitVec 32 := Scalar.addi c0_i32_269 v281
  v282.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2048_i32_273 : BitVec 32 := 2048#32
  let v289 : BitVec 32 := Scalar.muli v2 c2048_i32_273
  let c0_i32_274 : BitVec 32 := 0#32
  ![v289.toNat, 0]
def k0_dev7 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_362 : BitVec 32 := 1#32
  let v369 : BitVec 32 := Scalar.muli v64 c1_i32_362
  let v370 : BitVec 32 := Scalar.addi c0_i32_363 v369
  v370.toNat
def k0_dev8 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_451 : BitVec 32 := 1#32
  let v453 : BitVec 32 := Scalar.muli v97 c1_i32_451
  let v454 : BitVec 32 := Scalar.addi c0_i32_452 v453
  v454.toNat
def k0_dev9 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_542 : BitVec 32 := 1#32
  let v539 : BitVec 32 := Scalar.muli v64 c1_i32_542
  let v540 : BitVec 32 := Scalar.addi c0_i32_543 v539
  v540.toNat
def k0_dev10 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_631 : BitVec 32 := 1#32
  let v623 : BitVec 32 := Scalar.muli v97 c1_i32_631
  let v624 : BitVec 32 := Scalar.addi c0_i32_632 v623
  v624.toNat
def k0_dev11 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_730 : BitVec 32 := 1#32
  let v713 : BitVec 32 := Scalar.muli v64 c1_i32_730
  let v714 : BitVec 32 := Scalar.addi c0_i32_731 v713
  v714.toNat
def k0_dev12 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_827 : BitVec 32 := 1#32
  let v801 : BitVec 32 := Scalar.muli v97 c1_i32_827
  let v802 : BitVec 32 := Scalar.addi c0_i32_828 v801
  v802.toNat
def k0_dev13 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_926 : BitVec 32 := 1#32
  let v891 : BitVec 32 := Scalar.muli v64 c1_i32_926
  let v892 : BitVec 32 := Scalar.addi c0_i32_927 v891
  v892.toNat
def k0_dev14 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1023 : BitVec 32 := 1#32
  let v979 : BitVec 32 := Scalar.muli v97 c1_i32_1023
  let v980 : BitVec 32 := Scalar.addi c0_i32_1024 v979
  v980.toNat
def k0_dev15 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_1121 : BitVec 32 := 1#32
  let v1069 : BitVec 32 := Scalar.muli v64 c1_i32_1121
  let v1070 : BitVec 32 := Scalar.addi c0_i32_1122 v1069
  v1070.toNat
def k0_dev16 (d0 : Dev nD) : Nat :=
  let c0_i32_1218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1217 : BitVec 32 := 1#32
  let v1157 : BitVec 32 := Scalar.muli v97 c1_i32_1217
  let v1158 : BitVec 32 := Scalar.addi c0_i32_1218 v1157
  v1158.toNat
def k0_dev17 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_1315 : BitVec 32 := 1#32
  let v1247 : BitVec 32 := Scalar.muli v64 c1_i32_1315
  let v1248 : BitVec 32 := Scalar.addi c0_i32_1316 v1247
  v1248.toNat
def k0_dev18 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1411 : BitVec 32 := 1#32
  let v1335 : BitVec 32 := Scalar.muli v97 c1_i32_1411
  let v1336 : BitVec 32 := Scalar.addi c0_i32_1412 v1335
  v1336.toNat
def k0_dev19 (d0 : Dev nD) : Nat :=
  let c0_i32_1510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_1509 : BitVec 32 := 1#32
  let v1425 : BitVec 32 := Scalar.muli v64 c1_i32_1509
  let v1426 : BitVec 32 := Scalar.addi c0_i32_1510 v1425
  v1426.toNat
def k0_dev20 (d0 : Dev nD) : Nat :=
  let c0_i32_1606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1605 : BitVec 32 := 1#32
  let v1513 : BitVec 32 := Scalar.muli v97 c1_i32_1605
  let v1514 : BitVec 32 := Scalar.addi c0_i32_1606 v1513
  v1514.toNat
def k0_dev21 (d0 : Dev nD) : Nat :=
  let c0_i32_1704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_1703 : BitVec 32 := 1#32
  let v1603 : BitVec 32 := Scalar.muli v64 c1_i32_1703
  let v1604 : BitVec 32 := Scalar.addi c0_i32_1704 v1603
  v1604.toNat
def k0_dev22 (d0 : Dev nD) : Nat :=
  let c0_i32_1800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1799 : BitVec 32 := 1#32
  let v1691 : BitVec 32 := Scalar.muli v97 c1_i32_1799
  let v1692 : BitVec 32 := Scalar.addi c0_i32_1800 v1691
  v1692.toNat
def k0_dev23 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_1897 : BitVec 32 := 1#32
  let v1781 : BitVec 32 := Scalar.muli v64 c1_i32_1897
  let v1782 : BitVec 32 := Scalar.addi c0_i32_1898 v1781
  v1782.toNat
def k0_dev24 (d0 : Dev nD) : Nat :=
  let c0_i32_1994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_1993 : BitVec 32 := 1#32
  let v1869 : BitVec 32 := Scalar.muli v97 c1_i32_1993
  let v1870 : BitVec 32 := Scalar.addi c0_i32_1994 v1869
  v1870.toNat
def k0_dev25 (d0 : Dev nD) : Nat :=
  let c0_i32_2092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_2091 : BitVec 32 := 1#32
  let v1959 : BitVec 32 := Scalar.muli v64 c1_i32_2091
  let v1960 : BitVec 32 := Scalar.addi c0_i32_2092 v1959
  v1960.toNat
def k0_dev26 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_2187 : BitVec 32 := 1#32
  let v2047 : BitVec 32 := Scalar.muli v97 c1_i32_2187
  let v2048 : BitVec 32 := Scalar.addi c0_i32_2188 v2047
  v2048.toNat
def k0_dev27 (d0 : Dev nD) : Nat :=
  let c0_i32_2286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_2285 : BitVec 32 := 1#32
  let v2137 : BitVec 32 := Scalar.muli v64 c1_i32_2285
  let v2138 : BitVec 32 := Scalar.addi c0_i32_2286 v2137
  v2138.toNat
def k0_dev28 (d0 : Dev nD) : Nat :=
  let c0_i32_2382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_2381 : BitVec 32 := 1#32
  let v2225 : BitVec 32 := Scalar.muli v97 c1_i32_2381
  let v2226 : BitVec 32 := Scalar.addi c0_i32_2382 v2225
  v2226.toNat
def k0_dev29 (d0 : Dev nD) : Nat :=
  let c0_i32_2480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_2479 : BitVec 32 := 1#32
  let v2315 : BitVec 32 := Scalar.muli v64 c1_i32_2479
  let v2316 : BitVec 32 := Scalar.addi c0_i32_2480 v2315
  v2316.toNat
def k0_dev30 (d0 : Dev nD) : Nat :=
  let c0_i32_2576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_2575 : BitVec 32 := 1#32
  let v2403 : BitVec 32 := Scalar.muli v97 c1_i32_2575
  let v2404 : BitVec 32 := Scalar.addi c0_i32_2576 v2403
  v2404.toNat
def k0_dev31 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let v34 : BitVec 32 := Scalar.remsi v33 c16_i32_17
  let c15_i32_47 : BitVec 32 := 15#32
  let v63 : BitVec 1 := Scalar.cmpi .eq v34 c15_i32_47
  let c4_i32_48 : BitVec 32 := 4#32
  let c14_i32_45 : BitVec 32 := 14#32
  let v61 : BitVec 1 := Scalar.cmpi .eq v34 c14_i32_45
  let c8_i32_46 : BitVec 32 := 8#32
  let c13_i32_43 : BitVec 32 := 13#32
  let v59 : BitVec 1 := Scalar.cmpi .eq v34 c13_i32_43
  let c12_i32_44 : BitVec 32 := 12#32
  let c12_i32_41 : BitVec 32 := 12#32
  let v57 : BitVec 1 := Scalar.cmpi .eq v34 c12_i32_41
  let c15_i32_42 : BitVec 32 := 15#32
  let c11_i32_39 : BitVec 32 := 11#32
  let v55 : BitVec 1 := Scalar.cmpi .eq v34 c11_i32_39
  let c11_i32_40 : BitVec 32 := 11#32
  let c10_i32_37 : BitVec 32 := 10#32
  let v53 : BitVec 1 := Scalar.cmpi .eq v34 c10_i32_37
  let c7_i32_38 : BitVec 32 := 7#32
  let c9_i32_35 : BitVec 32 := 9#32
  let v51 : BitVec 1 := Scalar.cmpi .eq v34 c9_i32_35
  let c3_i32_36 : BitVec 32 := 3#32
  let c8_i32_33 : BitVec 32 := 8#32
  let v49 : BitVec 1 := Scalar.cmpi .eq v34 c8_i32_33
  let c2_i32_34 : BitVec 32 := 2#32
  let c7_i32_31 : BitVec 32 := 7#32
  let v47 : BitVec 1 := Scalar.cmpi .eq v34 c7_i32_31
  let c6_i32_32 : BitVec 32 := 6#32
  let c6_i32_29 : BitVec 32 := 6#32
  let v45 : BitVec 1 := Scalar.cmpi .eq v34 c6_i32_29
  let c10_i32_30 : BitVec 32 := 10#32
  let c5_i32_27 : BitVec 32 := 5#32
  let v43 : BitVec 1 := Scalar.cmpi .eq v34 c5_i32_27
  let c14_i32_28 : BitVec 32 := 14#32
  let c4_i32_25 : BitVec 32 := 4#32
  let v41 : BitVec 1 := Scalar.cmpi .eq v34 c4_i32_25
  let c13_i32_26 : BitVec 32 := 13#32
  let c3_i32_23 : BitVec 32 := 3#32
  let v39 : BitVec 1 := Scalar.cmpi .eq v34 c3_i32_23
  let c9_i32_24 : BitVec 32 := 9#32
  let c2_i32_21 : BitVec 32 := 2#32
  let v37 : BitVec 1 := Scalar.cmpi .eq v34 c2_i32_21
  let c5_i32_22 : BitVec 32 := 5#32
  let c1_i32_18 : BitVec 32 := 1#32
  let v35 : BitVec 1 := Scalar.cmpi .eq v34 c1_i32_18
  let c1_i32_19 : BitVec 32 := 1#32
  let c0_i32_20 : BitVec 32 := 0#32
  let v36 : BitVec 32 := Scalar.select v35 c1_i32_19 c0_i32_20
  let v38 : BitVec 32 := Scalar.select v37 c5_i32_22 v36
  let v40 : BitVec 32 := Scalar.select v39 c9_i32_24 v38
  let v42 : BitVec 32 := Scalar.select v41 c13_i32_26 v40
  let v44 : BitVec 32 := Scalar.select v43 c14_i32_28 v42
  let v46 : BitVec 32 := Scalar.select v45 c10_i32_30 v44
  let v48 : BitVec 32 := Scalar.select v47 c6_i32_32 v46
  let v50 : BitVec 32 := Scalar.select v49 c2_i32_34 v48
  let v52 : BitVec 32 := Scalar.select v51 c3_i32_36 v50
  let v54 : BitVec 32 := Scalar.select v53 c7_i32_38 v52
  let v56 : BitVec 32 := Scalar.select v55 c11_i32_40 v54
  let v58 : BitVec 32 := Scalar.select v57 c15_i32_42 v56
  let v60 : BitVec 32 := Scalar.select v59 c12_i32_44 v58
  let v62 : BitVec 32 := Scalar.select v61 c8_i32_46 v60
  let v64 : BitVec 32 := Scalar.select v63 c4_i32_48 v62
  let c1_i32_2673 : BitVec 32 := 1#32
  let v2493 : BitVec 32 := Scalar.muli v64 c1_i32_2673
  let v2494 : BitVec 32 := Scalar.addi c0_i32_2674 v2493
  v2494.toNat
def k0_dev32 (d0 : Dev nD) : Nat :=
  let c0_i32_2859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_49 : BitVec 32 := 1#32
  let v65 : BitVec 32 := Scalar.subi v32 c1_i32_49
  let c16_i32_50 : BitVec 32 := 16#32
  let v66 : BitVec 32 := Scalar.addi v65 c16_i32_50
  let c16_i32_51 : BitVec 32 := 16#32
  let v67 : BitVec 32 := Scalar.remsi v66 c16_i32_51
  let c15_i32_81 : BitVec 32 := 15#32
  let v96 : BitVec 1 := Scalar.cmpi .eq v67 c15_i32_81
  let c4_i32_82 : BitVec 32 := 4#32
  let c14_i32_79 : BitVec 32 := 14#32
  let v94 : BitVec 1 := Scalar.cmpi .eq v67 c14_i32_79
  let c8_i32_80 : BitVec 32 := 8#32
  let c13_i32_77 : BitVec 32 := 13#32
  let v92 : BitVec 1 := Scalar.cmpi .eq v67 c13_i32_77
  let c12_i32_78 : BitVec 32 := 12#32
  let c12_i32_75 : BitVec 32 := 12#32
  let v90 : BitVec 1 := Scalar.cmpi .eq v67 c12_i32_75
  let c15_i32_76 : BitVec 32 := 15#32
  let c11_i32_73 : BitVec 32 := 11#32
  let v88 : BitVec 1 := Scalar.cmpi .eq v67 c11_i32_73
  let c11_i32_74 : BitVec 32 := 11#32
  let c10_i32_71 : BitVec 32 := 10#32
  let v86 : BitVec 1 := Scalar.cmpi .eq v67 c10_i32_71
  let c7_i32_72 : BitVec 32 := 7#32
  let c9_i32_69 : BitVec 32 := 9#32
  let v84 : BitVec 1 := Scalar.cmpi .eq v67 c9_i32_69
  let c3_i32_70 : BitVec 32 := 3#32
  let c8_i32_67 : BitVec 32 := 8#32
  let v82 : BitVec 1 := Scalar.cmpi .eq v67 c8_i32_67
  let c2_i32_68 : BitVec 32 := 2#32
  let c7_i32_65 : BitVec 32 := 7#32
  let v80 : BitVec 1 := Scalar.cmpi .eq v67 c7_i32_65
  let c6_i32_66 : BitVec 32 := 6#32
  let c6_i32_63 : BitVec 32 := 6#32
  let v78 : BitVec 1 := Scalar.cmpi .eq v67 c6_i32_63
  let c10_i32_64 : BitVec 32 := 10#32
  let c5_i32_61 : BitVec 32 := 5#32
  let v76 : BitVec 1 := Scalar.cmpi .eq v67 c5_i32_61
  let c14_i32_62 : BitVec 32 := 14#32
  let c4_i32_59 : BitVec 32 := 4#32
  let v74 : BitVec 1 := Scalar.cmpi .eq v67 c4_i32_59
  let c13_i32_60 : BitVec 32 := 13#32
  let c3_i32_57 : BitVec 32 := 3#32
  let v72 : BitVec 1 := Scalar.cmpi .eq v67 c3_i32_57
  let c9_i32_58 : BitVec 32 := 9#32
  let c2_i32_55 : BitVec 32 := 2#32
  let v70 : BitVec 1 := Scalar.cmpi .eq v67 c2_i32_55
  let c5_i32_56 : BitVec 32 := 5#32
  let c1_i32_52 : BitVec 32 := 1#32
  let v68 : BitVec 1 := Scalar.cmpi .eq v67 c1_i32_52
  let c1_i32_53 : BitVec 32 := 1#32
  let c0_i32_54 : BitVec 32 := 0#32
  let v69 : BitVec 32 := Scalar.select v68 c1_i32_53 c0_i32_54
  let v71 : BitVec 32 := Scalar.select v70 c5_i32_56 v69
  let v73 : BitVec 32 := Scalar.select v72 c9_i32_58 v71
  let v75 : BitVec 32 := Scalar.select v74 c13_i32_60 v73
  let v77 : BitVec 32 := Scalar.select v76 c14_i32_62 v75
  let v79 : BitVec 32 := Scalar.select v78 c10_i32_64 v77
  let v81 : BitVec 32 := Scalar.select v80 c6_i32_66 v79
  let v83 : BitVec 32 := Scalar.select v82 c2_i32_68 v81
  let v85 : BitVec 32 := Scalar.select v84 c3_i32_70 v83
  let v87 : BitVec 32 := Scalar.select v86 c7_i32_72 v85
  let v89 : BitVec 32 := Scalar.select v88 c11_i32_74 v87
  let v91 : BitVec 32 := Scalar.select v90 c15_i32_76 v89
  let v93 : BitVec 32 := Scalar.select v92 c12_i32_78 v91
  let v95 : BitVec 32 := Scalar.select v94 c8_i32_80 v93
  let v97 : BitVec 32 := Scalar.select v96 c4_i32_82 v95
  let c1_i32_2858 : BitVec 32 := 1#32
  let v2662 : BitVec 32 := Scalar.muli v97 c1_i32_2858
  let v2663 : BitVec 32 := Scalar.addi c0_i32_2859 v2662
  v2663.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S1024x2048 : Shape := ⟨2, ![1024, 2048]⟩
abbrev S32768x2048 : Shape := ⟨2, ![32768, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .bf16⟩
  | .hbm, ⟨2, _⟩ => ⟨S32768x2048, .f32⟩
  | .hbm, ⟨3, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ops.lean ====
/-
The program each device runs, in the shape the proof follows.

The kernel sends every device's block of the product once around the ring in each direction. A block has two
halves; a lane `(d, j)` is the traffic of half `j` in direction `d` (`false` clockwise, `true` counter-clockwise).
Lanes with `d = j` make eight hops, the two others seven. This file names the half blocks, the semaphores
and the operations, writes the body of a device as their sequence, and shows it is the printed body.
-/
module

public import proofs.«01_k».proof.Proof.Gen.KernelIdeal
public import Idealize.ShloMosaic.Lib.Pipeline.Regions
public import Idealize.ShloMosaic.Lib.Tactic

@[expose] public section

set_option maxRecDepth 16384

noncomputable section

namespace Cert.KernelIdeal.Ring

open Cert.KernelIdeal Cert.KernelIdeal.Gen
open Idealize.ShloMosaic Idealize.ShloMosaic.TcCoe
open Idealize.SL.Sem

variable {F : FTy → Type} [FloatOps F]

/-! ## The ring -/

/-- The position of a device on the ring. -/
def pos (c : Dev nD) : Fin 16 := ![0, 1, 8, 9, 15, 2, 7, 10, 14, 3, 6, 11, 13, 4, 5, 12] c
/-- The device at a position. -/
def at' (p : Fin 16) : Dev nD := ![0, 1, 5, 9, 13, 14, 10, 6, 2, 3, 7, 11, 15, 12, 8, 4] p

/-- The device a lane of direction `d` sends to. -/
def tgt (d : Bool) (c : Dev nD) : Dev nD := at' (pos c + (if d then 15 else 1))
/-- The device whose block a device sends at hop `h` in direction `d`: the one `h` places upstream. -/
def org (d : Bool) (h : ℕ) (c : Dev nD) : Dev nD := at' (pos c + (if d then Fin.ofNat 16 h else Fin.ofNat 16 (15 * h)))

theorem tgt_tgt (d : Bool) (c : Dev nD) : tgt (!d) (tgt d c) = c := by revert d c; decide +kernel
theorem tgt_ne (c : Dev nD) : tgt false c ≠ tgt true c := by revert c; decide +kernel
theorem org_zero (d : Bool) (c : Dev nD) : org d 0 c = c := by revert d c; decide +kernel

/-! ## Lanes and semaphores -/

/-- A direction and a half. -/
abbrev Lane : Type := Bool × Bool

/-- How many hops a lane makes. -/
def len (l : Lane) : ℕ := if l.1 = l.2 then 8 else 7

/-- The semaphore a lane's hop `h` counts its reading on: one of two, by parity. -/
def sSem (l : Lane) (h : ℕ) : DmaSem sig :=
  (Fin.ofNat 43 ((if l.1 then 22 else 2) + 2 * (h % 2) + (if l.2 then 1 else 0)) : Fin 43)
/-- The semaphore a lane's hop `h` counts its landing on: one per hop. -/
def rSem (l : Lane) (h : ℕ) : DmaSem sig :=
  (Fin.ofNat 43 ((if l.1 then 26 else 6) + 2 * h + (if l.2 then 1 else 0)) : Fin 43)
/-- The semaphore of the device's own block. -/
def oSem : DmaSem sig := (42 : Fin 43)
/-- The barrier semaphore. -/
abbrev barS : Sem sig := (SemArray.scalar (sig.barrier 0 rfl) : Sems sig S_).sem

/-! ## The memrefs -/

abbrev aM : Memref sig .tc .vmem S2048x1024 .bf16 := Memref.whole cc0_stg0_0
abbrev bM : Memref sig .tc .vmem S1024x2048 .bf16 := Memref.whole cc0_stg1_0
abbrev oM : Memref sig .tc .hbm S32768x2048 .bf16 := Memref.whole main_v1
abbrev cM : Memref sig .tc .vmem S2048x2048 .bf16 := Memref.whole cc0_scratch0

/-- Rows of the result from an offset on. -/
abbrev rowM (off : Fin 2 → ℕ) (inb : ∀ a, off a + S1024x2048.size a ≤ S32768x2048.size a) :
    Memref sig .tc .hbm S1024x2048 .bf16 :=
  oM.slice (Rect.unit (s := S32768x2048) off S1024x2048.size inb) (fun _ => rfl)

/-- Where half `j` of device `o`'s block starts. -/
def offO (o : Dev nD) (j : Bool) : Fin 2 → ℕ := ![2048 * o.val + (if j then 1024 else 0), 0]
theorem offO_inb (o : Dev nD) (j : Bool) : ∀ a, offO o j a + S1024x2048.size a ≤ S32768x2048.size a := by
  revert o j; decide +kernel
theorem offO_words (o : Dev nD) (j : Bool) :
    (Rect.unit (s := S32768x2048) (offO o j) S1024x2048.size (offO_inb o j)).WholeWords (EltTy.packing .bf16) := by
  revert o j; decide +kernel
/-- Half `j` of device `o`'s block of the result. -/
abbrev blkM (o : Dev nD) (j : Bool) : Memref sig .tc .hbm S1024x2048 .bf16 := rowM (offO o j) (offO_inb o j)

/-- Device `o`'s whole block of the result. -/
def offW (o : Dev nD) : Fin 2 → ℕ := ![2048 * o.val, 0]
theorem offW_inb (o : Dev nD) : ∀ a, offW o a + S2048x2048.size a ≤ S32768x2048.size a := by revert o; decide +kernel
theorem offW_words (o : Dev nD) :
    (Rect.unit (s := S32768x2048) (offW o) S2048x2048.size (offW_inb o)).WholeWords (EltTy.packing .bf16) := by
  revert o; decide +kernel
abbrev wideM (off : Fin 2 → ℕ) (inb : ∀ a, off a + S2048x2048.size a ≤ S32768x2048.size a) :
    Memref sig .tc .hbm S2048x2048 .bf16 :=
  oM.slice (Rect.unit (s := S32768x2048) off S2048x2048.size inb) (fun _ => rfl)
abbrev ownM (o : Dev nD) : Memref sig .tc .hbm S2048x2048 .bf16 := wideM (offW o) (offW_inb o)

/-- Half `j` of the computed product. -/
def offC (j : Bool) : Fin 2 → ℕ := ![if j then 1024 else 0, 0]
theorem offC_inb (j : Bool) : ∀ a, offC j a + S1024x2048.size a ≤ S2048x2048.size a := by revert j; decide
theorem offC_words (j : Bool) :
    (Rect.unit (s := S2048x2048) (offC j) S1024x2048.size (offC_inb j)).WholeWords (EltTy.packing .bf16) := by
  revert j; decide
theorem offC_packed (j : Bool) :
    (Rect.unit (s := S2048x2048) (offC j) S1024x2048.size (offC_inb j)).PackedRows (EltTy.packing .bf16) := by
  revert j; decide
abbrev rectC (j : Bool) : Rect S2048x2048 := Rect.unit (s := S2048x2048) (offC j) S1024x2048.size (offC_inb j)
abbrev halfM (j : Bool) : Memref sig .tc .vmem S1024x2048 .bf16 := cM.slice (rectC j) (fun _ => rfl)

theorem offC_slices (j : Bool) : S2048x1024.Slices (offC j) S1024x1024 := by revert j; decide

/-- Half `j` of the product of a device's rows `a` with `b`, rounded. -/
def payC (j : Bool) (a : Vec F S2048x1024 .bf16) (b : Vec F S1024x2048 .bf16) : FVec F S1024x2048 .bf16 :=
  shapeCast S1024x2048 (truncf .bf16 (matmul dot_S1024x1024_S1024x2048_S1024x2048_1_0_0_1_n_n none
    (extractStridedSlice S1024x1024 (offC j) (shapeCast S2048x1024 a shapeCasts_S2048x1024_S2048x1024) (offC_slices j))
    (shapeCast S1024x2048 b shapeCasts_S1024x2048_S1024x2048) (constant S1024x2048 .f32 0x00000000#32)) bitsLt_bf16_f32)
    shapeCasts_S1024x2048_S1024x2048

/-! ## The operations, each with what follows it -/

abbrev PP (F : FTy → Type) [FloatOps F] : Type 1 := Prog (TpuEff nD τ sig (Elt F) Λ₀ .tc) PUnit

def opSignal (n : ℕ) (hn : n < nD) (k : PP F) : PP F :=
  .op (.semSignal ((Dev.tc (⟨n, hn⟩ : Dev nD) : Thread nD τ)) barS (1#32).toInt) fun _ => k
def opBarrier (k : PP F) : PP F := .op (.semWait barS (2#32).toInt) fun _ => k

def opLoadA (k : Vec F S2048x1024 .bf16 → PP F) : PP F :=
  .op (.load aM (Rect.unit (s := S2048x1024) ![0, 0] S2048x1024.size inb_S2048x1024_S2048x1024_0_0).toLoadRect (View.loadsAt_vmem h_S2048x1024)) k
def opLoadB (k : Vec F S1024x2048 .bf16 → PP F) : PP F :=
  .op (.load bM (Rect.unit (s := S1024x2048) ![0, 0] S1024x2048.size inb_S1024x2048_S1024x2048_0_0).toLoadRect (View.loadsAt_vmem h_S1024x2048)) k
def opLoadC (j : Bool) (k : PP F) : PP F :=
  .op (.load cM (rectC j).toLoadRect (View.loadsAt_vmem h_S1024x2048)) fun _ => k
def opStoreC (j : Bool) (w : FVec F S1024x2048 .bf16) (k : PP F) : PP F :=
  .op (.store cM (rectC j) w Finset.univ (View.stores_vmem h_S1024x2048 ((Memref.isWhole_whole _).storeExact_slice rfl _ (offC_packed j)) (fun _ => rfl)) (.inl rfl)) fun _ => k

/-- A first hop: half `j` of the computed product into the target's rows at `off`. -/
def opSend (n : ℕ) (hn : n < nD) (j : Bool) (off : Fin 2 → ℕ) (inb : ∀ a, off a + S1024x2048.size a ≤ S32768x2048.size a)
    (hw : (Rect.unit (s := S32768x2048) off S1024x2048.size inb).WholeWords (EltTy.packing .bf16)) (sd rv : DmaSem sig) (k : PP F) : PP F :=
  .op (.enqueueDma (halfM j) (.remote (Dev.tc (⟨n, hn⟩ : Dev nD)) (rowM off inb) (.dma sd)) (.dma rv)
    ((Memref.isWhole_whole _).wordExact_slice rfl _ (offC_words j)) ((Memref.isWhole_whole _).wordExact_slice rfl _ hw) ⟨⟨rfl, Or.inl rfl⟩, trivial⟩) fun _ => k
/-- A later hop: rows at `off` into the target's same rows. -/
def opFwd (n : ℕ) (hn : n < nD) (off : Fin 2 → ℕ) (inb : ∀ a, off a + S1024x2048.size a ≤ S32768x2048.size a)
    (hw : (Rect.unit (s := S32768x2048) off S1024x2048.size inb).WholeWords (EltTy.packing .bf16)) (sd rv : DmaSem sig) (k : PP F) : PP F :=
  .op (.enqueueDma (rowM off inb) (.remote (Dev.tc (⟨n, hn⟩ : Dev nD)) (rowM off inb) (.dma sd)) (.dma rv)
    ((Memref.isWhole_whole _).wordExact_slice rfl _ hw) ((Memref.isWhole_whole _).wordExact_slice rfl _ hw) ⟨⟨rfl, Or.inl rfl⟩, trivial⟩) fun _ => k
/-- The copy of the whole computed product into the device's own rows. -/
def opOwn (off : Fin 2 → ℕ) (inb : ∀ a, off a + S2048x2048.size a ≤ S32768x2048.size a)
    (hw : (Rect.unit (s := S32768x2048) off S2048x2048.size inb).WholeWords (EltTy.packing .bf16)) (k : PP F) : PP F :=
  .op (.enqueueDma cM (.here (wideM off inb)) (.dma oSem) (Memref.isWhole_whole _).wordExact
    ((Memref.isWhole_whole _).wordExact_slice rfl _ hw) ⟨Or.inl rfl, trivial⟩) fun _ => k
/-- A wait for a half block. -/
def opWait (q : DmaSem sig) (b : Ref sig .tc) (k : PP F) : PP F :=
  .op (.waitDma q b S1024x2048 .bf16 (Or.inl rfl)) fun _ => k
def opWaitOwn (k : PP F) : PP F := .op (.waitDma oSem main_v1 S2048x2048 .bf16 (Or.inl rfl)) fun _ => k

/-! ## The printed body as a sequence of operations -/

def rawProg (d0 : Dev nD) : PP F :=
  opSignal (k0_dev1 d0) (k0_dev1_lt d0) <|
  opSignal (k0_dev2 d0) (k0_dev2_lt d0) <|
  opLoadA fun va =>
  opLoadB fun vb =>
  opLoadC false <|
  opStoreC false (payC false va vb) <|
  opBarrier <|
  opSend (k0_dev3 d0) (k0_dev3_lt d0) false (k0_off1 d0 0#32 0#32) (k0_off1_inb d0 0) (k0_off1_wordsbf16 d0 0) (sSem (false, false) 0) (rSem (false, false) 0) <|
  opSend (k0_dev4 d0) (k0_dev4_lt d0) false (k0_off2 d0 0#32 0#32) (k0_off2_inb d0 0) (k0_off2_wordsbf16 d0 0) (sSem (true, false) 0) (rSem (true, false) 0) <|
  opLoadC true <|
  opStoreC true (payC true va vb) <|
  opSend (k0_dev5 d0) (k0_dev5_lt d0) true (k0_off1 d0 0#32 1024#32) (k0_off1_inb d0 1) (k0_off1_wordsbf16 d0 1) (sSem (false, true) 0) (rSem (false, true) 0) <|
  opSend (k0_dev6 d0) (k0_dev6_lt d0) true (k0_off2 d0 0#32 1024#32) (k0_off2_inb d0 1) (k0_off2_wordsbf16 d0 1) (sSem (true, true) 0) (rSem (true, true) 0) <|
  opOwn (k0_off3 d0) (k0_off3_inb d0) (k0_off3_wordsbf16 d0) <|
  opWait (rSem (false, false) 0) main_v1 <|
  opFwd (k0_dev7 d0) (k0_dev7_lt d0) (k0_off1 d0 1#32 0#32) (k0_off1_inb d0 2) (k0_off1_wordsbf16 d0 2) (sSem (false, false) 1) (rSem (false, false) 1) <|
  opWait (rSem (true, false) 0) main_v1 <|
  opFwd (k0_dev8 d0) (k0_dev8_lt d0) (k0_off2 d0 1#32 0#32) (k0_off2_inb d0 2) (k0_off2_wordsbf16 d0 2) (sSem (true, false) 1) (rSem (true, false) 1) <|
  opWait (rSem (false, true) 0) main_v1 <|
  opFwd (k0_dev9 d0) (k0_dev9_lt d0) (k0_off1 d0 1#32 1024#32) (k0_off1_inb d0 3) (k0_off1_wordsbf16 d0 3) (sSem (false, true) 1) (rSem (false, true) 1) <|
  opWait (rSem (true, true) 0) main_v1 <|
  opFwd (k0_dev10 d0) (k0_dev10_lt d0) (k0_off2 d0 1#32 1024#32) (k0_off2_inb d0 3) (k0_off2_wordsbf16 d0 3) (sSem (true, true) 1) (rSem (true, true) 1) <|
  opWait (rSem (false, false) 1) main_v1 <|
  opWait (sSem (false, false) 0) cc0_scratch0 <|
  opFwd (k0_dev11 d0) (k0_dev11_lt d0) (k0_off1 d0 2#32 0#32) (k0_off1_inb d0 4) (k0_off1_wordsbf16 d0 4) (sSem (false, false) 2) (rSem (false, false) 2) <|
  opWait (rSem (true, false) 1) main_v1 <|
  opWait (sSem (true, false) 0) cc0_scratch0 <|
  opFwd (k0_dev12 d0) (k0_dev12_lt d0) (k0_off2 d0 2#32 0#32) (k0_off2_inb d0 4) (k0_off2_wordsbf16 d0 4) (sSem (true, false) 2) (rSem (true, false) 2) <|
  opWait (rSem (false, true) 1) main_v1 <|
  opWait (sSem (false, true) 0) cc0_scratch0 <|
  opFwd (k0_dev13 d0) (k0_dev13_lt d0) (k0_off1 d0 2#32 1024#32) (k0_off1_inb d0 5) (k0_off1_wordsbf16 d0 5) (sSem (false, true) 2) (rSem (false, true) 2) <|
  opWait (rSem (true, true) 1) main_v1 <|
  opWait (sSem (true, true) 0) cc0_scratch0 <|
  opFwd (k0_dev14 d0) (k0_dev14_lt d0) (k0_off2 d0 2#32 1024#32) (k0_off2_inb d0 5) (k0_off2_wordsbf16 d0 5) (sSem (true, true) 2) (rSem (true, true) 2) <|
  opWait (rSem (false, false) 2) main_v1 <|
  opWait (sSem (false, false) 1) main_v1 <|
  opFwd (k0_dev15 d0) (k0_dev15_lt d0) (k0_off1 d0 3#32 0#32) (k0_off1_inb d0 6) (k0_off1_wordsbf16 d0 6) (sSem (false, false) 3) (rSem (false, false) 3) <|
  opWait (rSem (true, false) 2) main_v1 <|
  opWait (sSem (true, false) 1) main_v1 <|
  opFwd (k0_dev16 d0) (k0_dev16_lt d0) (k0_off2 d0 3#32 0#32) (k0_off2_inb d0 6) (k0_off2_wordsbf16 d0 6) (sSem (true, false) 3) (rSem (true, false) 3) <|
  opWait (rSem (false, true) 2) main_v1 <|
  opWait (sSem (false, true) 1) main_v1 <|
  opFwd (k0_dev17 d0) (k0_dev17_lt d0) (k0_off1 d0 3#32 1024#32) (k0_off1_inb d0 7) (k0_off1_wordsbf16 d0 7) (sSem (false, true) 3) (rSem (false, true) 3) <|
  opWait (rSem (true, true) 2) main_v1 <|
  opWait (sSem (true, true) 1) main_v1 <|
  opFwd (k0_dev18 d0) (k0_dev18_lt d0) (k0_off2 d0 3#32 1024#32) (k0_off2_inb d0 7) (k0_off2_wordsbf16 d0 7) (sSem (true, true) 3) (rSem (true, true) 3) <|
  opWait (rSem (false, false) 3) main_v1 <|
  opWait (sSem (false, false) 0) main_v1 <|
  opFwd (k0_dev19 d0) (k0_dev19_lt d0) (k0_off1 d0 4#32 0#32) (k0_off1_inb d0 8) (k0_off1_wordsbf16 d0 8) (sSem (false, false) 4) (rSem (false, false) 4) <|
  opWait (rSem (true, false) 3) main_v1 <|
  opWait (sSem (true, false) 0) main_v1 <|
  opFwd (k0_dev20 d0) (k0_dev20_lt d0) (k0_off2 d0 4#32 0#32) (k0_off2_inb d0 8) (k0_off2_wordsbf16 d0 8) (sSem (true, false) 4) (rSem (true, false) 4) <|
  opWait (rSem (false, true) 3) main_v1 <|
  opWait (sSem (false, true) 0) main_v1 <|
  opFwd (k0_dev21 d0) (k0_dev21_lt d0) (k0_off1 d0 4#32 1024#32) (k0_off1_inb d0 9) (k0_off1_wordsbf16 d0 9) (sSem (false, true) 4) (rSem (false, true) 4) <|
  opWait (rSem (true, true) 3) main_v1 <|
  opWait (sSem (true, true) 0) main_v1 <|
  opFwd (k0_dev22 d0) (k0_dev22_lt d0) (k0_off2 d0 4#32 1024#32) (k0_off2_inb d0 9) (k0_off2_wordsbf16 d0 9) (sSem (true, true) 4) (rSem (true, true) 4) <|
  opWait (rSem (false, false) 4) main_v1 <|
  opWait (sSem (false, false) 1) main_v1 <|
  opFwd (k0_dev23 d0) (k0_dev23_lt d0) (k0_off1 d0 5#32 0#32) (k0_off1_inb d0 10) (k0_off1_wordsbf16 d0 10) (sSem (false, false) 5) (rSem (false, false) 5) <|
  opWait (rSem (true, false) 4) main_v1 <|
  opWait (sSem (true, false) 1) main_v1 <|
  opFwd (k0_dev24 d0) (k0_dev24_lt d0) (k0_off2 d0 5#32 0#32) (k0_off2_inb d0 10) (k0_off2_wordsbf16 d0 10) (sSem (true, false) 5) (rSem (true, false) 5) <|
  opWait (rSem (false, true) 4) main_v1 <|
  opWait (sSem (false, true) 1) main_v1 <|
  opFwd (k0_dev25 d0) (k0_dev25_lt d0) (k0_off1 d0 5#32 1024#32) (k0_off1_inb d0 11) (k0_off1_wordsbf16 d0 11) (sSem (false, true) 5) (rSem (false, true) 5) <|
  opWait (rSem (true, true) 4) main_v1 <|
  opWait (sSem (true, true) 1) main_v1 <|
  opFwd (k0_dev26 d0) (k0_dev26_lt d0) (k0_off2 d0 5#32 1024#32) (k0_off2_inb d0 11) (k0_off2_wordsbf16 d0 11) (sSem (true, true) 5) (rSem (true, true) 5) <|
  opWait (rSem (false, false) 5) main_v1 <|
  opWait (sSem (false, false) 0) main_v1 <|
  opFwd (k0_dev27 d0) (k0_dev27_lt d0) (k0_off1 d0 6#32 0#32) (k0_off1_inb d0 12) (k0_off1_wordsbf16 d0 12) (sSem (false, false) 6) (rSem (false, false) 6) <|
  opWait (rSem (true, false) 5) main_v1 <|
  opWait (sSem (true, false) 0) main_v1 <|
  opFwd (k0_dev28 d0) (k0_dev28_lt d0) (k0_off2 d0 6#32 0#32) (k0_off2_inb d0 12) (k0_off2_wordsbf16 d0 12) (sSem (true, false) 6) (rSem (true, false) 6) <|
  opWait (rSem (false, true) 5) main_v1 <|
  opWait (sSem (false, true) 0) main_v1 <|
  opFwd (k0_dev29 d0) (k0_dev29_lt d0) (k0_off1 d0 6#32 1024#32) (k0_off1_inb d0 13) (k0_off1_wordsbf16 d0 13) (sSem (false, true) 6) (rSem (false, true) 6) <|
  opWait (rSem (true, true) 5) main_v1 <|
  opWait (sSem (true, true) 0) main_v1 <|
  opFwd (k0_dev30 d0) (k0_dev30_lt d0) (k0_off2 d0 6#32 1024#32) (k0_off2_inb d0 13) (k0_off2_wordsbf16 d0 13) (sSem (true, true) 6) (rSem (true, true) 6) <|
  opWait (rSem (false, false) 6) main_v1 <|
  opWait (sSem (false, false) 1) main_v1 <|
  opFwd (k0_dev31 d0) (k0_dev31_lt d0) (k0_off1 d0 7#32 0#32) (k0_off1_inb d0 14) (k0_off1_wordsbf16 d0 14) (sSem (false, false) 7) (rSem (false, false) 7) <|
  opWait (rSem (true, false) 6) main_v1 <|
  opWait (rSem (false, true) 6) main_v1 <|
  opWait (rSem (true, true) 6) main_v1 <|
  opWait (sSem (true, true) 1) main_v1 <|
  opFwd (k0_dev32 d0) (k0_dev32_lt d0) (k0_off2 d0 7#32 1024#32) (k0_off2_inb d0 15) (k0_off2_wordsbf16 d0 15) (sSem (true, true) 7) (rSem (true, true) 7) <|
  opWait (rSem (false, false) 7) main_v1 <|
  opWait (rSem (true, true) 7) main_v1 <|
  opWait (sSem (false, true) 1) main_v1 <|
  opWait (sSem (false, false) 0) main_v1 <|
  opWait (sSem (false, true) 0) main_v1 <|
  opWait (sSem (false, false) 1) main_v1 <|
  opWait (sSem (true, false) 1) main_v1 <|
  opWait (sSem (true, false) 0) main_v1 <|
  opWait (sSem (true, true) 0) main_v1 <|
  opWait (sSem (true, true) 1) main_v1 <|
  opWaitOwn <|
  .ret ⟨⟩

set_option maxHeartbeats 4000000 in
theorem body_raw : cc0_body (F := F) aM (Memref.isWhole_whole _) bM (Memref.isWhole_whole _) oM (Memref.isWhole_whole _) cM (Memref.isWhole_whole _)
    cc0_scratch1 cc0_scratch2 cc0_scratch3 cc0_scratch4 cc0_scratch5 = .op .deviceId fun d0 => rawProg d0 := by
  chain_rfl

/-! ## The same with targets and rows named -/

def send0 (c : Dev nD) (l : Lane) (k : PP F) : PP F :=
  opSend (tgt l.1 c).val (tgt l.1 c).isLt l.2 (offO c l.2) (offO_inb c l.2) (offO_words c l.2) (sSem l 0) (rSem l 0) k
def fwd (c : Dev nD) (l : Lane) (h : ℕ) (k : PP F) : PP F :=
  opFwd (tgt l.1 c).val (tgt l.1 c).isLt (offO (org l.1 h c) l.2) (offO_inb _ l.2) (offO_words _ l.2) (sSem l h) (rSem l h) k
def waitR (l : Lane) (h : ℕ) (k : PP F) : PP F := opWait (rSem l h) main_v1 k
def waitS (l : Lane) (h : ℕ) (k : PP F) : PP F := opWait (sSem l h) (if h = 0 then cc0_scratch0 else main_v1) k
def signal (c : Dev nD) (d : Bool) (k : PP F) : PP F := opSignal (tgt d c).val (tgt d c).isLt k
def ownCopy (c : Dev nD) (k : PP F) : PP F := opOwn (offW c) (offW_inb c) (offW_words c) k

theorem opSend_congr {n n' : ℕ} (e : n = n') {off off' : Fin 2 → ℕ} (e' : off = off') (hn : n < nD) (hn' : n' < nD) {j : Bool} (inb inb')
    {hw hw'} {sd rv : DmaSem sig} {k : PP F} (u v : Unit) :
    opSend n hn j off inb hw sd rv k = opSend n' hn' j off' inb' hw' sd rv k := by
  subst e; subst e'; rfl
theorem opFwd_congr {n n' : ℕ} (e : n = n') {off off' : Fin 2 → ℕ} (e' : off = off') (hn : n < nD) (hn' : n' < nD) (inb inb')
    {hw hw'} {sd rv : DmaSem sig} {k : PP F} :
    opFwd n hn off inb hw sd rv k = opFwd n' hn' off' inb' hw' sd rv k := by
  subst e; subst e'; rfl

theorem send3_eq (d0 : Dev nD) (k : Prog (TpuEff nD τ sig (Elt F) Λ₀ .tc) PUnit) :
    opSend (k0_dev3 d0) (k0_dev3_lt d0) false (k0_off1 d0 0#32 0#32) (k0_off1_inb d0 0) (k0_off1_wordsbf16 d0 0) (sSem (false, false) 0) (rSem (false, false) 0) k
      = send0 d0 (false, false) k :=
  opSend_congr (by revert d0; decide +kernel) (by revert d0; decide +kernel) _ _ _ _ () ()
theorem send4_eq (d0 : Dev nD) (k : Prog (TpuEff nD τ sig (Elt F) Λ₀ .tc) PUnit) :
    opSend (k0_dev4 d0) (k0_dev4_lt d0) false (k0_off2 d0 0#32 0#32) (k0_off2_inb d0 0) (k0_off2_wordsbf16 d0 0) (sSem (true, false) 0) (rSem (true, false) 0) k
      = send0 d0 (true, false) k :=
  opSend_congr (by revert d0; decide +kernel) (by revert d0; decide +kernel) _ _ _ _ () ()
theorem send5_eq (d0 : Dev nD) (k : Prog (TpuEff nD τ sig (Elt F) Λ₀ .tc) PUnit) :
    opSend (k0_dev5 d0) (k0_dev5_lt d0) true (k0_off1 d0 0#32 1024#32) (k0_off1_inb d0 1) (k0_off1_wordsbf16 d0 1) (sSem (false, true) 0) (rSem (false, true) 0) k
      = send0 d0 (false, true) k :=
  opSend_congr (by revert d0; decide +kernel) (by revert d0; decide +kernel) _ _ _ _ () ()
theorem send6_eq (d0 : Dev nD) (k : Prog (TpuEff nD τ sig (Elt F) Λ₀ .tc) PUnit) :
    opSend (k0_dev6 d0) (k0_dev6_lt d0) true (k0_off2 d0 0#32 1024#32) (k0_off2_inb d0 1) (k0_off2_wordsbf16 d0 1) (sSem (true, true) 0) (rSem (true, true) 0) k
      = send0 d0 (true, true) k :=
  opSend_congr (by revert d0; decide +kernel) (by revert d0; decide +kernel) _ _ _ _ () ()
theorem send7_eq (d0 : Dev nD) (k : Prog (TpuEff nD τ sig (Elt F) Λ₀ .tc) PUnit) :
    opFwd (k0_dev7 d0) (k0_dev7_lt d0) (k0_off1 d0 1#32 0#32) (k0_off1_inb d0 2) (k0_off1_wordsbf16 d0 2) (sSem (false, false) 1) (rSem (false, false) 1) k
      = fwd d0 (false, false) 1 k :=
  opFwd_congr (by revert d0; decide +kernel) (by revert d0; decide +kernel) _ _ _ _
theorem send8_eq (d0 : Dev nD) (k : Prog (TpuEff nD τ sig (Elt F) Λ₀ .tc) PUnit) :
    opFwd (k0_dev8 d0) (k0_dev8_lt d0) (k0_off2 d0 1#32 0#32) (k0_off2_inb d0 2) (k0_off2_wordsbf16 d0 2) (sSem (true, false) 1) (rSem (true, false) 1) k
      = fwd d0 (true, false) 1 k :=
  opFwd_congr (by revert d0; decide +kernel) (by revert d0; decide +kernel) _ _ _ _
theorem send9_eq (d0 : Dev nD) (k : Prog (TpuEff nD τ sig (Elt F) Λ₀ .tc) PUnit) :
    opFwd (k0_dev9 d0) (k0_dev9_lt d0) (k0_off1 d0 1#32 1024#32) (k0_off1_inb d0 3) (k0_off1_wordsbf16 d0 3) (sSem (false, true) 1) (rSem (false, true) 1) k
      = fwd d0 (false, true) 1 k :=
  opFwd_congr (by revert d0; decide +kernel) (by revert d0; decide +kernel) _ _ _ _
theorem send10_eq (d0 : Dev nD) (k : Prog (TpuEff nD τ sig (Elt F) Λ₀ .tc) PUnit) :
    opFwd (k0_dev10 d0) (k0_dev10_lt d0) (k0_off2 d0 1#32 1024#32) (k0_off2_inb d0 3) (k0_off2_wordsbf16 d0 3) (sSem (true, true) 1) (rSem (true, true) 1) k
      = fwd d0 (true, true) 1 k :=
  opFwd_congr (by revert d0; decide +kernel) (by revert d0; decide +kernel) _ _ _ _
theorem send11_eq (d0 : Dev nD) (k : Prog (TpuEff nD τ sig (Elt F) Λ₀ .tc) PUnit) :
    opFwd (k0_dev11 d0) (k0_dev11_lt d0) (k0_off1 d0 2#32 0#32) (k0_off1_inb d0 4) (k0_off1_wordsbf16 d0 4) (sSem (false, false) 2) (rSem (false, false) 2) k
      = fwd d0 (false, false) 2 k :=
  opFwd_congr (by revert d0; decide +kernel) (by revert d0; decide +kernel) _ _ _ _
theorem send12_eq (d0 : Dev nD) (k : Prog (TpuEff nD τ sig (Elt F) Λ₀ .tc) PUnit) :
    opFwd (k0_dev12 d0) (k0_dev12_lt d0) (k0_off2 d0 2#32 0#32) (k0_off2_inb d0 4) (k0_off2_wordsbf16 d0 4) (sSem (true, false) 2) (rSem (true, false) 2) k
      = fwd d0 (true, false) 2 k :=
  opFwd_congr (by revert d0; decide +kernel) (by revert d0; decide +kernel) _ _ _ _
theorem send13_eq (d0 : Dev nD) (k : Prog (TpuEff nD τ sig (Elt F) Λ₀ .tc) PUnit) :
    opFwd (k0_dev13 d0) (k0_dev13_lt d0) (k0_off1 d0 2#32 1024#32) (k0_off1_inb d0 5) (k0_off1_wordsbf16 d0 5) (sSem (false, true) 2) (rSem (false, true) 2) k
      = fwd d0 (false, true) 2 k :=
  opFwd_congr (by revert d0; decide +kernel) (by revert d0; decide +kernel) _ _ _ _
theorem send14_eq (d0 : Dev nD) (k : Prog (TpuEff nD τ sig (Elt F) Λ₀ .tc) PUnit) :
    opFwd (k0_dev14 d0) (k0_dev14_lt d0) (k0_off2 d0 2#32 1024#32) (k0_off2_inb d0 5) (k0_off2_wordsbf16 d0 5) (sSem (true, true) 2) (rSem (true, true) 2) k
      = fwd d0 (true, true) 2 k :=
  opFwd_congr (by revert d0; decide +kernel) (by revert d0; decide +kernel) _ _ _ _
theorem send15_eq (d0 : Dev nD) (k : Prog (TpuEff nD τ sig (Elt F) Λ₀ .tc) PUnit) :
    opFwd (k0_dev15 d0) (k0_dev15_lt d0) (k0_off1 d0 3#32 0#32) (k0_off1_inb d0 6) (k0_off1_wordsbf16 d0 6) (sSem (false, false) 3) (rSem (false, false) 3) k
      = fwd d0 (false, false) 3 k :=
  opFwd_congr (by revert d0; decide +kernel) (by revert d0; decide +kernel) _ _ _ _
theorem send16_eq (d0 : Dev nD) (k : Prog (TpuEff nD τ sig (Elt F) Λ₀ .tc) PUnit) :
    opFwd (k0_dev16 d0) (k0_dev16_lt d0) (k0_off2 d0 3#32 0#32) (k0_off2_inb d0 6) (k0_off2_wordsbf16 d0 6) (sSem (true, false) 3) (rSem (true, false) 3) k
      = fwd d0 (true, false) 3 k :=
  opFwd_congr (by revert d0; decide +kernel) (by revert d0; decide +kernel) _ _ _ _
theorem send17_eq (d0 : Dev nD) (k : Prog (TpuEff nD τ sig (Elt F) Λ₀ .tc) PUnit) :
    opFwd (k0_dev17 d0) (k0_dev17_lt d0) (k0_off1 d0 3#32 1024#32) (k0_off1_inb d0 7) (k0_off1_wordsbf16 d0 7) (sSem (false, true) 3) (rSem (false, true) 3) k
      = fwd d0 (false, true) 3 k :=
  opFwd_congr (by revert d0; decide +kernel) (by revert d0; decide +kernel) _ _ _ _
theorem send18_eq (d0 : Dev nD) (k : Prog (TpuEff nD τ sig (Elt F) Λ₀ .tc) PUnit) :
    opFwd (k0_dev18 d0) (k0_dev18_lt d0) (k0_off2 d0 3#32 1024#32) (k0_off2_inb d0 7) (k0_off2_wordsbf16 d0 7) (sSem (true, true) 3) (rSem (true, true) 3) k
      = fwd d0 (true, true) 3 k :=
  opFwd_congr (by revert d0; decide +kernel) (by revert d0; decide +kernel) _ _ _ _
theorem send19_eq (d0 : Dev nD) (k : Prog (TpuEff nD τ sig (Elt F) Λ₀ .tc) PUnit) :
    opFwd (k0_dev19 d0) (k0_dev19_lt d0) (k0_off1 d0 4#32 0#32) (k0_off1_inb d0 8) (k0_off1_wordsbf16 d0 8) (sSem (false, false) 4) (rSem (false, false) 4) k
      = fwd d0 (false, false) 4 k :=
  opFwd_congr (by revert d0; decide +kernel) (by revert d0; decide +kernel) _ _ _ _
theorem send20_eq (d0 : Dev nD) (k : Prog (TpuEff nD τ sig (Elt F) Λ₀ .tc) PUnit) :
    opFwd (k0_dev20 d0) (k0_dev20_lt d0) (k0_off2 d0 4#32 0#32) (k0_off2_inb d0 8) (k0_off2_wordsbf16 d0 8) (sSem (true, false) 4) (rSem (true, false) 4) k
      = fwd d0 (true, false) 4 k :=
  opFwd_congr (by revert d0; decide +kernel) (by revert d0; decide +kernel) _ _ _ _
theorem send21_eq (d0 : Dev nD) (k : Prog (TpuEff nD τ sig (Elt F) Λ₀ .tc) PUnit) :
    opFwd (k0_dev21 d0) (k0_dev21_lt d0) (k0_off1 d0 4#32 1024#32) (k0_off1_inb d0 9) (k0_off1_wordsbf16 d0 9) (sSem (false, true) 4) (rSem (false, true) 4) k
      = fwd d0 (false, true) 4 k :=
  opFwd_congr (by revert d0; decide +kernel) (by revert d0; decide +kernel) _ _ _ _
theorem send22_eq (d0 : Dev nD) (k : Prog (TpuEff nD τ sig (Elt F) Λ₀ .tc) PUnit) :
    opFwd (k0_dev22 d0) (k0_dev22_lt d0) (k0_off2 d0 4#32 1024#32) (k0_off2_inb d0 9) (k0_off2_wordsbf16 d0 9) (sSem (true, true) 4) (rSem (true, true) 4) k
      = fwd d0 (true, true) 4 k :=
  opFwd_congr (by revert d0; decide +kernel) (by revert d0; decide +kernel) _ _ _ _
theorem send23_eq (d0 : Dev nD) (k : Prog (TpuEff nD τ sig (Elt F) Λ₀ .tc) PUnit) :
    opFwd (k0_dev23 d0) (k0_dev23_lt d0) (k0_off1 d0 5#32 0#32) (k0_off1_inb d0 10) (k0_off1_wordsbf16 d0 10) (sSem (false, false) 5) (rSem (false, false) 5) k
      = fwd d0 (false, false) 5 k :=
  opFwd_congr (by revert d0; decide +kernel) (by revert d0; decide +kernel) _ _ _ _
theorem send24_eq (d0 : Dev nD) (k : Prog (TpuEff nD τ sig (Elt F) Λ₀ .tc) PUnit) :
    opFwd (k0_dev24 d0) (k0_dev24_lt d0) (k0_off2 d0 5#32 0#32) (k0_off2_inb d0 10) (k0_off2_wordsbf16 d0 10) (sSem (true, false) 5) (rSem (true, false) 5) k
      = fwd d0 (true, false) 5 k :=
  opFwd_congr (by revert d0; decide +kernel) (by revert d0; decide +kernel) _ _ _ _
theorem send25_eq (d0 : Dev nD) (k : Prog (TpuEff nD τ sig (Elt F) Λ₀ .tc) PUnit) :
    opFwd (k0_dev25 d0) (k0_dev25_lt d0) (k0_off1 d0 5#32 1024#32) (k0_off1_inb d0 11) (k0_off1_wordsbf16 d0 11) (sSem (false, true) 5) (rSem (false, true) 5) k
      = fwd d0 (false, true) 5 k :=
  opFwd_congr (by revert d0; decide +kernel) (by revert d0; decide +kernel) _ _ _ _
theorem send26_eq (d0 : Dev nD) (k : Prog (TpuEff nD τ sig (Elt F) Λ₀ .tc) PUnit) :
    opFwd (k0_dev26 d0) (k0_dev26_lt d0) (k0_off2 d0 5#32 1024#32) (k0_off2_inb d0 11) (k0_off2_wordsbf16 d0 11) (sSem (true, true) 5) (rSem (true, true) 5) k
      = fwd d0 (true, true) 5 k :=
  opFwd_congr (by revert d0; decide +kernel) (by revert d0; decide +kernel) _ _ _ _
theorem send27_eq (d0 : Dev nD) (k : Prog (TpuEff nD τ sig (Elt F) Λ₀ .tc) PUnit) :
    opFwd (k0_dev27 d0) (k0_dev27_lt d0) (k0_off1 d0 6#32 0#32) (k0_off1_inb d0 12) (k0_off1_wordsbf16 d0 12) (sSem (false, false) 6) (rSem (false, false) 6) k
      = fwd d0 (false, false) 6 k :=
  opFwd_congr (by revert d0; decide +kernel) (by revert d0; decide +kernel) _ _ _ _
theorem send28_eq (d0 : Dev nD) (k : Prog (TpuEff nD τ sig (Elt F) Λ₀ .tc) PUnit) :
    opFwd (k0_dev28 d0) (k0_dev28_lt d0) (k0_off2 d0 6#32 0#32) (k0_off2_inb d0 12) (k0_off2_wordsbf16 d0 12) (sSem (true, false) 6) (rSem (true, false) 6) k
      = fwd d0 (true, false) 6 k :=
  opFwd_congr (by revert d0; decide +kernel) (by revert d0; decide +kernel) _ _ _ _
theorem send29_eq (d0 : Dev nD) (k : Prog (TpuEff nD τ sig (Elt F) Λ₀ .tc) PUnit) :
    opFwd (k0_dev29 d0) (k0_dev29_lt d0) (k0_off1 d0 6#32 1024#32) (k0_off1_inb d0 13) (k0_off1_wordsbf16 d0 13) (sSem (false, true) 6) (rSem (false, true) 6) k
      = fwd d0 (false, true) 6 k :=
  opFwd_congr (by revert d0; decide +kernel) (by revert d0; decide +kernel) _ _ _ _
theorem send30_eq (d0 : Dev nD) (k : Prog (TpuEff nD τ sig (Elt F) Λ₀ .tc) PUnit) :
    opFwd (k0_dev30 d0) (k0_dev30_lt d0) (k0_off2 d0 6#32 1024#32) (k0_off2_inb d0 13) (k0_off2_wordsbf16 d0 13) (sSem (true, true) 6) (rSem (true, true) 6) k
      = fwd d0 (true, true) 6 k :=
  opFwd_congr (by revert d0; decide +kernel) (by revert d0; decide +kernel) _ _ _ _
theorem send31_eq (d0 : Dev nD) (k : Prog (TpuEff nD τ sig (Elt F) Λ₀ .tc) PUnit) :
    opFwd (k0_dev31 d0) (k0_dev31_lt d0) (k0_off1 d0 7#32 0#32) (k0_off1_inb d0 14) (k0_off1_wordsbf16 d0 14) (sSem (false, false) 7) (rSem (false, false) 7) k
      = fwd d0 (false, false) 7 k :=
  opFwd_congr (by revert d0; decide +kernel) (by revert d0; decide +kernel) _ _ _ _
theorem send32_eq (d0 : Dev nD) (k : Prog (TpuEff nD τ sig (Elt F) Λ₀ .tc) PUnit) :
    opFwd (k0_dev32 d0) (k0_dev32_lt d0) (k0_off2 d0 7#32 1024#32) (k0_off2_inb d0 15) (k0_off2_wordsbf16 d0 15) (sSem (true, true) 7) (rSem (true, true) 7) k
      = fwd d0 (true, true) 7 k :=
  opFwd_congr (by revert d0; decide +kernel) (by revert d0; decide +kernel) _ _ _ _

/-- A lane's hop 1: the wait for hop 0's landing, and the hop. -/
def grp1 (c : Dev nD) (l : Lane) (k : PP F) : PP F := waitR l 0 <| fwd c l 1 k
/-- A lane's hop `h` from 2 on: the wait for the last hop's landing, the wait for the reading of the hop before that, the hop. -/
def grp (c : Dev nD) (h : ℕ) (l : Lane) (k : PP F) : PP F := waitR l (h - 1) <| waitS l (h - 2) <| fwd c l h k
/-- Hop `h` of the four lanes. -/
def step (c : Dev nD) (h : ℕ) (k : PP F) : PP F :=
  grp c h (false, false) <| grp c h (true, false) <| grp c h (false, true) <| grp c h (true, true) k
/-- The last hops, and the waits for all that is under way. -/
def tailProg (c : Dev nD) : PP F :=
  grp c 7 (false, false) <| waitR (true, false) 6 <| waitR (false, true) 6 <| grp c 7 (true, true) <|
  waitR (false, false) 7 <| waitR (true, true) 7 <|
  waitS (false, true) 5 <| waitS (false, false) 6 <| waitS (false, true) 6 <| waitS (false, false) 7 <|
  waitS (true, false) 5 <| waitS (true, false) 6 <| waitS (true, true) 6 <| waitS (true, true) 7 <|
  opWaitOwn <| .ret ⟨⟩
/-- Everything from hop 1 on. -/
def hopsProg (c : Dev nD) : PP F :=
  grp1 c (false, false) <| grp1 c (true, false) <| grp1 c (false, true) <| grp1 c (true, true) <|
  step c 2 <| step c 3 <| step c 4 <| step c 5 <| step c 6 <| tailProg c
/-- The body of device `c`. -/
def mainProg (c : Dev nD) : PP F :=
  signal c true <| signal c false <|
  opLoadA fun va => opLoadB fun vb =>
  opLoadC false <| opStoreC false (payC false va vb) <|
  opBarrier <|
  send0 c (false, false) <| send0 c (true, false) <|
  opLoadC true <| opStoreC true (payC true va vb) <|
  send0 c (false, true) <| send0 c (true, true) <|
  ownCopy c <| hopsProg c

theorem signal1_eq (d0 : Dev nD) (k : PP F) : opSignal (k0_dev1 d0) (k0_dev1_lt d0) k = signal d0 true k := by
  have e : k0_dev1 d0 = (tgt true d0).val := by revert d0; decide +kernel
  unfold signal; congr 1
theorem signal2_eq (d0 : Dev nD) (k : PP F) : opSignal (k0_dev2 d0) (k0_dev2_lt d0) k = signal d0 false k := by
  have e : k0_dev2 d0 = (tgt false d0).val := by revert d0; decide +kernel
  unfold signal; congr 1
theorem own_eq (d0 : Dev nD) (k : PP F) : opOwn (k0_off3 d0) (k0_off3_inb d0) (k0_off3_wordsbf16 d0) k = ownCopy d0 k := by
  have e : k0_off3 d0 = offW d0 := by revert d0; decide +kernel
  unfold ownCopy; congr 1

set_option maxHeartbeats 4000000 in
theorem raw_main (d0 : Dev nD) : rawProg (F := F) d0 = mainProg d0 := by
  unfold rawProg
  simp only [signal1_eq, signal2_eq, own_eq, send3_eq, send4_eq, send5_eq, send6_eq, send7_eq, send8_eq, send9_eq, send10_eq, send11_eq, send12_eq, send13_eq, send14_eq, send15_eq, send16_eq, send17_eq, send18_eq, send19_eq, send20_eq, send21_eq, send22_eq, send23_eq, send24_eq, send25_eq, send26_eq, send27_eq, send28_eq, send29_eq, send30_eq, send31_eq, send32_eq]
  chain_rfl

/-- The printed body is the sequence of operations above. -/
theorem body_eq : cc0_body (F := F) aM (Memref.isWhole_whole _) bM (Memref.isWhole_whole _) oM (Memref.isWhole_whole _) cM (Memref.isWhole_whole _)
    cc0_scratch1 cc0_scratch2 cc0_scratch3 cc0_scratch4 cc0_scratch5 = .op .deviceId fun d0 => mainProg d0 :=
  body_raw.trans (congrArg _ (funext raw_main))

end Cert.KernelIdeal.Ring

end
-- ==== Proof.Views.lean ====
/-
The contents the kernel computes, and the pieces of the buffers it moves.

`fin` is what every device's result holds at the end: the rows of device `o`'s block are `o`'s product. The file
says which elements a half block, a whole block and a half of the computed product are, that a transfer of a
block at `fin` leaves it at `fin`, and that the result splits into a device's own block and what its four lanes bring.
-/
module

public import proofs.«01_k».proof.Proof.Ops
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `o`'s rows of the left operand, as its staging buffer holds them. -/
def aOf (o : Dev nD) : Vec F S2048x1024 .bf16 := (win0_0.blk (0 : Fin 1)).view.read (Elt F) (m ((o : Thread nD τ).loc main_arg0))
/-- Device `o`'s right operand. -/
def bOf (o : Dev nD) : Vec F S1024x2048 .bf16 := (win0_1.blk (0 : Fin 1)).view.read (Elt F) (m ((o : Thread nD τ).loc main_arg1))

/-- Indices of the result, of the product and of a half, by row and column. -/
abbrev ixO (r : Fin 32768) (k : Fin 2048) : S32768x2048.Idx := Shape.pair (d := S32768x2048.size) r k
abbrev ixC (r : Fin 2048) (k : Fin 2048) : S2048x2048.Idx := Shape.pair (d := S2048x2048.size) r k
abbrev ixH (r : Fin 1024) (k : Fin 2048) : S1024x2048.Idx := Shape.pair (d := S1024x2048.size) r k

theorem row_lt (x : S1024x2048.Idx) : (x 0).val < 1024 := (x 0).isLt
theorem blk_row_lt (o : Dev nD) (j : Bool) (x : S1024x2048.Idx) : 2048 * o.val + (if j then 1024 else 0) + (x 0).val < 32768 := by
  have h := row_lt x
  have : o.val < 16 := o.isLt
  split <;> omega
theorem own_row_lt (o : Dev nD) (x : S2048x2048.Idx) : 2048 * o.val + (x 0).val < 32768 := by
  have h : (x 0).val < 2048 := (x 0).isLt
  have : o.val < 16 := o.isLt
  omega
theorem half_row_lt (j : Bool) (x : S1024x2048.Idx) : (if j then 1024 else 0) + (x 0).val < 2048 := by
  have h := row_lt x
  split <;> omega

/-- The device whose block an element of the result lies in, the half, and the place in the half. -/
def blkOf (y : S32768x2048.Idx) : Dev nD := ⟨(y 0).val / 2048, Nat.div_lt_of_lt_mul (y 0).isLt⟩
def halfOf (y : S32768x2048.Idx) : Bool := decide (1024 ≤ (y 0).val % 2048)
def inHalf (y : S32768x2048.Idx) : S1024x2048.Idx := ixH ⟨(y 0).val % 1024, Nat.mod_lt _ (by decide : 0 < 1024)⟩ (y 1)

/-- The result at the end, the same on every device. -/
def fin : (main_v1 : Ref sig .tc).ty.Contents (Elt F) := fun y => payC (halfOf y) (aOf m (blkOf y)) (bOf m (blkOf y)) (inHalf y)

theorem blk_emb (o : Dev nD) (j : Bool) (x : S1024x2048.Idx) :
    ((blkM o j).view.emb x : S32768x2048.Idx) = ixO ⟨2048 * o.val + (if j then 1024 else 0) + (x 0).val, blk_row_lt o j x⟩ (x 1) := by
  funext a
  refine Fin.ext ?_
  show ((Rect.unit (s := S32768x2048) (offO o j) S1024x2048.size (offO_inb o j)).emb x a).val = _
  rw [Rect.emb_apply]
  fin_cases a
  · show offO o j 0 + 1 * (x 0).val = _
    rw [Nat.one_mul]; rfl
  · show offO o j 1 + 1 * (x 1).val = _
    rw [Nat.one_mul]; show 0 + _ = _; rw [Nat.zero_add]; rfl

theorem own_emb (o : Dev nD) (x : S2048x2048.Idx) :
    ((ownM o).view.emb x : S32768x2048.Idx) = ixO ⟨2048 * o.val + (x 0).val, own_row_lt o x⟩ (x 1) := by
  funext a
  refine Fin.ext ?_
  show ((Rect.unit (s := S32768x2048) (offW o) S2048x2048.size (offW_inb o)).emb x a).val = _
  rw [Rect.emb_apply]
  fin_cases a
  · show offW o 0 + 1 * (x 0).val = _
    rw [Nat.one_mul]; rfl
  · show offW o 1 + 1 * (x 1).val = _
    rw [Nat.one_mul]; show 0 + _ = _; rw [Nat.zero_add]; rfl

theorem half_emb (j : Bool) (x : S1024x2048.Idx) :
    ((halfM j).view.emb x : S2048x2048.Idx) = ixC ⟨(if j then 1024 else 0) + (x 0).val, half_row_lt j x⟩ (x 1) := by
  funext a
  refine Fin.ext ?_
  show ((rectC j).emb x a).val = _
  rw [Rect.emb_apply]
  fin_cases a
  · show offC j 0 + 1 * (x 0).val = _
    rw [Nat.one_mul]; rfl
  · show offC j 1 + 1 * (x 1).val = _
    rw [Nat.one_mul]; show 0 + _ = _; rw [Nat.zero_add]; rfl

theorem own_half (c : Dev nD) (j : Bool) (x : S1024x2048.Idx) :
    ((ownM c).view.emb ((halfM j).view.emb x : S2048x2048.Idx) : S32768x2048.Idx) = (blkM c j).view.emb x := by
  rw [own_emb, blk_emb, half_emb]
  congr 1
  refine Fin.ext ?_
  show 2048 * c.val + ((if j then 1024 else 0) + (x 0).val) = _
  exact (Nat.add_assoc _ _ _).symm

theorem fin_blk (o : Dev nD) (j : Bool) (x : S1024x2048.Idx) :
    fin m ((blkM o j).view.emb x) = payC j (aOf m o) (bOf m o) x := by
  have h0 : (x 0).val < 1024 := (x 0).isLt
  rw [blk_emb]
  generalize hy : ixO ⟨2048 * o.val + (if j then 1024 else 0) + (x 0).val, blk_row_lt o j x⟩ (x 1) = y
  have hv : (y 0).val = 2048 * o.val + (if j then 1024 else 0) + (x 0).val := by rw [← hy]; rfl
  have hw : y 1 = x 1 := by rw [← hy]; rfl
  have h1 : blkOf y = o := Fin.ext (by show (y 0).val / 2048 = _; rw [hv]; split <;> omega)
  have h2 : halfOf y = j := by
    unfold halfOf; rw [hv]; cases j
    · simp only [Bool.false_eq_true, if_false, decide_eq_false_iff_not]; omega
    · simp only [if_true, decide_eq_true_eq]; omega
  have h3 : inHalf y = x := by
    refine Eq.trans ?_ (Shape.pair_eta (d := S1024x2048.size) x)
    unfold inHalf
    rw [hw]
    congr 1
    refine Fin.ext ?_
    show (y 0).val % 1024 = (x 0).val; rw [hv]; split <;> omega
  unfold fin; rw [h1, h2, h3]

/-- The computed product of device `c`, read off `fin`. -/
def pC (c : Dev nD) : (cc0_scratch0 : Ref sig .tc).ty.Contents (Elt F) := fun x => fin m ((ownM c).view.emb x)

theorem pC_half (c : Dev nD) (j : Bool) (x : S1024x2048.Idx) : pC m c ((halfM j).view.emb x) = payC j (aOf m c) (bOf m c) x := by
  unfold pC; rw [own_half]; exact fin_blk m c j x

/-! ## Pieces of the buffers -/

/-- Half `j` of device `o`'s block, in device `c`'s result. -/
def blkPts (c o : Dev nD) (j : Bool) (f : (main_v1 : Ref sig .tc).ty.Contents (Elt F)) : sProp 𝕄 :=
  (blkM o j).view.loc (c : Thread nD τ) ↦[(blkM o j).view.set]{fullShare} f
/-- Device `c`'s own block in its result. -/
def ownPts (c : Dev nD) (f : (main_v1 : Ref sig .tc).ty.Contents (Elt F)) : sProp 𝕄 :=
  (ownM c).view.loc (c : Thread nD τ) ↦[(ownM c).view.set]{fullShare} f
/-- A share of half `j` of device `c`'s computed product. -/
def halfPts (c : Dev nD) (j : Bool) (q : PosShare TreeShare) (f : (cc0_scratch0 : Ref sig .tc).ty.Contents (Elt F)) : sProp 𝕄 :=
  (halfM j).view.loc (c : Thread nD τ) ↦[(halfM j).view.set]{q} f
def cPts (c : Dev nD) (q : PosShare TreeShare) (f : (cc0_scratch0 : Ref sig .tc).ty.Contents (Elt F)) : sProp 𝕄 :=
  (cM : Memref sig .tc .vmem S2048x2048 .bf16).view.loc (c : Thread nD τ) ↦[(cM : Memref sig .tc .vmem S2048x2048 .bf16).view.set]{q} f

instance blkPts_storable (c o : Dev nD) (j : Bool) (f) : BI.Storable (upEmb : UEmb _ 𝕄) (blkPts (F := F) c o j f) := by unfold blkPts; infer_instance
instance ownPts_storable (c : Dev nD) (f) : BI.Storable (upEmb : UEmb _ 𝕄) (ownPts (F := F) c f) := by unfold ownPts; infer_instance
instance halfPts_storable (c : Dev nD) (j : Bool) (q) (f) : BI.Storable (upEmb : UEmb _ 𝕄) (halfPts (F := F) c j q f) := by unfold halfPts; infer_instance
instance cPts_storable (c : Dev nD) (q) (f) : BI.Storable (upEmb : UEmb _ 𝕄) (cPts (F := F) c q f) := by unfold cPts; infer_instance

theorem cPts_eq (c : Dev nD) (q : PosShare TreeShare) (f : (cc0_scratch0 : Ref sig .tc).ty.Contents (Elt F)) :
    cPts c q f = (((c : Thread nD τ).loc cc0_scratch0) ↦{q} f : sProp 𝕄) := by unfold cPts; rw [View.set_whole]

theorem mem_of_set {κ : Kind} {sp : Space} {s : Shape} {e : EltTy} (v : View sig κ sp s e) {i : v.ty.Idx} (h : i ∈ v.set) : ∃ x : s.Idx, v.emb x = i := by
  obtain ⟨x, -, hx⟩ := Finset.mem_map.mp h
  exact ⟨x, hx⟩

/-- A first hop lands the half of the sender's product: the block's rows at `fin`. -/
theorem land_send (c d : Dev nD) (j : Bool) (fd : (main_v1 : Ref sig .tc).ty.Contents (Elt F)) :
    blkPts d c j ((blkM c j).view.write (Elt F) fd ((halfM j).view.read (Elt F) (pC m c)) Finset.univ) = (blkPts d c j (fin m) : sProp 𝕄) := by
  unfold blkPts
  refine pointsTo_congr fun i hi => ?_
  obtain ⟨x, rfl⟩ := mem_of_set (blkM c j).view hi
  rw [View.write_emb_of_mem _ _ (Finset.mem_univ x)]
  show pC m c ((halfM j).view.emb x) = _
  rw [pC_half, fin_blk]

/-- A later hop lands what it read. -/
theorem land_fwd (d o : Dev nD) (j : Bool) (fd : (main_v1 : Ref sig .tc).ty.Contents (Elt F)) :
    blkPts d o j ((blkM o j).view.write (Elt F) fd ((blkM o j).view.read (Elt F) (fin m)) Finset.univ) = (blkPts d o j (fin m) : sProp 𝕄) := by
  unfold blkPts
  refine pointsTo_congr fun i hi => ?_
  obtain ⟨x, rfl⟩ := mem_of_set (blkM o j).view hi
  rw [View.write_emb_of_mem _ _ (Finset.mem_univ x)]
  rfl

/-- The device's own copy lands its product. -/
theorem land_own (c : Dev nD) (fd : (main_v1 : Ref sig .tc).ty.Contents (Elt F)) :
    ownPts c ((ownM c).view.write (Elt F) fd ((cM : Memref sig .tc .vmem S2048x2048 .bf16).view.read (Elt F) (pC m c)) Finset.univ) = (ownPts c (fin m) : sProp 𝕄) := by
  unfold ownPts
  refine pointsTo_congr fun i hi => ?_
  obtain ⟨x, rfl⟩ := mem_of_set (ownM c).view hi
  rw [View.write_emb_of_mem _ _ (Finset.mem_univ x)]
  rfl

/-- Storing half `j` of the product leaves that half of the buffer at the product. -/
theorem store_half (c : Dev nD) (j : Bool) (f : (cc0_scratch0 : Ref sig .tc).ty.Contents (Elt F)) :
    halfPts c j fullShare (((cM : Memref sig .tc .vmem S2048x2048 .bf16).access (rectC j)).write (Elt F) f (payC j (aOf m c) (bOf m c)) Finset.univ)
      = (halfPts c j fullShare (pC m c) : sProp 𝕄) := by
  unfold halfPts
  refine pointsTo_congr fun i hi => ?_
  obtain ⟨x, rfl⟩ := mem_of_set (halfM j).view hi
  rw [pC_half]
  generalize payC j (aOf m c) (bOf m c) = w
  exact View.write_emb_of_mem (v := (cM : Memref sig .tc .vmem S2048x2048 .bf16).access (rectC j)) f w (Finset.mem_univ x)

/-! ## The sets, and the splits -/

theorem mem_blk (o : Dev nD) (j : Bool) (y : S32768x2048.Idx) :
    y ∈ (blkM o j).view.set ↔ 2048 * o.val + (if j then 1024 else 0) ≤ (y 0).val ∧ (y 0).val < 2048 * o.val + (if j then 1024 else 0) + 1024 := by
  show y ∈ ((View.whole main_v1).slice (Rect.unit (s := S32768x2048) (offO o j) S1024x2048.size (offO_inb o j))).set ↔ _
  rw [View.set_slice_whole, show (y ∈ (Rect.unit (s := S32768x2048) (offO o j) S1024x2048.size (offO_inb o j)).set) = _ from propext Rect.mem_set_unit]
  rw [Fin.forall_fin_two]
  refine ⟨fun h => h.1, fun h => ⟨h, Nat.zero_le _, ?_⟩⟩
  exact (y 1).isLt

theorem mem_own (o : Dev nD) (y : S32768x2048.Idx) :
    y ∈ (ownM o).view.set ↔ 2048 * o.val ≤ (y 0).val ∧ (y 0).val < 2048 * o.val + 2048 := by
  show y ∈ ((View.whole main_v1).slice (Rect.unit (s := S32768x2048) (offW o) S2048x2048.size (offW_inb o))).set ↔ _
  rw [View.set_slice_whole, show (y ∈ (Rect.unit (s := S32768x2048) (offW o) S2048x2048.size (offW_inb o)).set) = _ from propext Rect.mem_set_unit]
  rw [Fin.forall_fin_two]
  refine ⟨fun h => h.1, fun h => ⟨h, Nat.zero_le _, ?_⟩⟩
  exact (y 1).isLt

theorem mem_half (j : Bool) (y : S2048x2048.Idx) :
    y ∈ (halfM j).view.set ↔ (if j then 1024 else 0) ≤ (y 0).val ∧ (y 0).val < (if j then 1024 else 0) + 1024 := by
  show y ∈ ((View.whole cc0_scratch0).slice (rectC j)).set ↔ _
  rw [View.set_slice_whole, show (y ∈ (rectC j).set) = _ from propext Rect.mem_set_unit]
  rw [Fin.forall_fin_two]
  refine ⟨fun h => h.1, fun h => ⟨h, Nat.zero_le _, ?_⟩⟩
  exact (y 1).isLt

theorem cPts_split (c : Dev nD) (q : PosShare TreeShare) (f : (cc0_scratch0 : Ref sig .tc).ty.Contents (Elt F)) :
    cPts c q f ⊣⊢ (iprop(halfPts c false q f ∗ halfPts c true q f) : sProp 𝕄) := by
  rw [cPts_eq]
  have hu : (Finset.univ : Finset S2048x2048.Idx) = (halfM false).view.set ∪ (halfM true).view.set := by
    ext y
    have hy : (y 0).val < 2048 := (y 0).isLt
    rw [Finset.mem_union, mem_half, mem_half]
    simp only [Finset.mem_univ, true_iff, Bool.false_eq_true, if_false, if_true]; omega
  have hd : Disjoint (halfM false).view.set (halfM true).view.set := by
    rw [Finset.disjoint_left]; intro y h1 h2
    rw [mem_half] at h1 h2
    simp only [Bool.false_eq_true, if_false, if_true] at h1 h2; omega
  unfold halfPts
  have := pointsTo_union (Ix := Unit) (Val := Elt F) (Name := ℕ) (U := UU) (Lvl := ℕ) (ℓ := (c : Thread nD τ).loc cc0_scratch0) (q := q) (f := f) hd
  rw [← hu] at this
  exact this

theorem ownPts_split (c : Dev nD) (f : (main_v1 : Ref sig .tc).ty.Contents (Elt F)) :
    ownPts c f ⊣⊢ (iprop(blkPts c c false f ∗ blkPts c c true f) : sProp 𝕄) := by
  have hu : (ownM c).view.set = (blkM c false).view.set ∪ (blkM c true).view.set := by
    ext y
    rw [Finset.mem_union, mem_blk, mem_blk]
    refine (mem_own c y).trans ?_
    simp only [Bool.false_eq_true, if_false, if_true]; omega
  have hd : Disjoint (blkM c false).view.set (blkM c true).view.set := by
    rw [Finset.disjoint_left]; intro y h1 h2
    rw [mem_blk] at h1 h2
    simp only [Bool.false_eq_true, if_false, if_true] at h1 h2; omega
  unfold ownPts blkPts
  rw [hu]
  exact pointsTo_union (Ix := Unit) (Val := Elt F) (Name := ℕ) (U := UU) (Lvl := ℕ) (ℓ := (c : Thread nD τ).loc main_v1) (q := fullShare) (f := f) hd

/-- The result as its thirty-two half blocks. -/
theorem out_blocks (c : Dev nD) (f : (main_v1 : Ref sig .tc).ty.Contents (Elt F)) :
    (((c : Thread nD τ).loc main_v1) ↦{fullShare} f : sProp 𝕄) = bigSep Finset.univ fun oj : Dev nD × Bool => blkPts c oj.1 oj.2 f := by
  have hu : (Finset.univ : Finset S32768x2048.Idx) = (Finset.univ : Finset (Dev nD × Bool)).biUnion fun oj => (blkM oj.1 oj.2).view.set := by
    ext y
    simp only [Finset.mem_univ, true_iff, Finset.mem_biUnion, true_and]
    refine ⟨(blkOf y, halfOf y), (mem_blk _ _ y).mpr ?_⟩
    show 2048 * ((y 0).val / 2048) + (if halfOf y then 1024 else 0) ≤ _ ∧ _ < 2048 * ((y 0).val / 2048) + (if halfOf y then 1024 else 0) + 1024
    unfold halfOf
    by_cases h : 1024 ≤ (y 0).val % 2048
    · simp only [h, decide_true, if_true]; omega
    · simp only [h, decide_false, Bool.false_eq_true, if_false]; omega
  have hd : ∀ t ∈ (Finset.univ : Finset (Dev nD × Bool)), ∀ t' ∈ (Finset.univ : Finset (Dev nD × Bool)), t ≠ t' →
      Disjoint (blkM t.1 t.2).view.set (blkM t'.1 t'.2).view.set := by
    rintro ⟨o, j⟩ - ⟨o', j'⟩ - hne
    rw [Finset.disjoint_left]; intro y h1 h2
    rw [mem_blk] at h1 h2
    apply hne
    have ho : o = o' := Fin.ext (by
      dsimp only at h1 h2
      split at h1 <;> split at h2 <;> omega)
    subst ho
    have hj : j = j' := by
      dsimp only at h1 h2
      cases j <;> cases j' <;> simp only [Bool.false_eq_true, if_false, if_true] at h1 h2 <;> first | rfl | (exfalso; omega)
    rw [hj]
  have h := pointsTo_biUnion (Ix := Unit) (Val := Elt F) (Name := ℕ) (U := UU) (Lvl := ℕ) (ℓ := (c : Thread nD τ).loc main_v1) (q := fullShare) (f := f)
    (Finset.univ : Finset (Dev nD × Bool)) (fun oj => (blkM oj.1 oj.2).view.set) hd
  rw [← hu] at h
  exact h

end Cert.KernelIdeal.Ring

end
-- ==== Proof.Sched.lean ====
/-
The schedule of the semaphores: who pays which, how much, and the contents each landing hands over.

The barrier cell of `x` gets one unit from each neighbour; the neighbour in direction `d` hands over the rows of
its result that `x` will write along `d`. The cell a lane's hop lands on gets one half block from upstream, with
those rows at `fin`. The cell a lane's hop is read on gets one half block per hop of its parity, with the source back.
The own cell gets the whole block, with the device's own rows at `fin` and the share of the product back.
-/
module

public import proofs.«01_k».proof.Proof.Views
public import Mathlib.Algebra.BigOperators.Intervals

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells -/

abbrev barC (c : Dev nD) : GSem nD τ sig := ((c : Thread nD τ), .reg barS)
abbrev rC (c : Dev nD) (l : Lane) (h : ℕ) : GSem nD τ sig := ((c : Thread nD τ), .dma (rSem l h))
abbrev sC (c : Dev nD) (l : Lane) (h : ℕ) : GSem nD τ sig := ((c : Thread nD τ), .dma (sSem l h))
abbrev oC (c : Dev nD) : GSem nD τ sig := ((c : Thread nD τ), .dma oSem)

/-- What a DMA semaphore is for. -/
inductive Role where
  | own
  | snd (l : Lane) (p : ℕ)
  | rcv (l : Lane) (h : ℕ)
  | other
deriving DecidableEq

def roleOf (q : DmaSem sig) : Role :=
  let k : ℕ := Fin.val (n := 43) q
  if k = 42 then .own
  else if k < 2 then .other
  else if k < 22 then
    (if k - 2 < 4 then .snd (false, decide ((k - 2) % 2 = 1)) ((k - 2) / 2) else .rcv (false, decide ((k - 2) % 2 = 1)) ((k - 6) / 2))
  else
    (if k - 22 < 4 then .snd (true, decide ((k - 22) % 2 = 1)) ((k - 22) / 2) else .rcv (true, decide ((k - 22) % 2 = 1)) ((k - 26) / 2))

theorem role_own : roleOf oSem = .own := by decide +kernel
theorem role_snd (l : Lane) (h : ℕ) : roleOf (sSem l h) = .snd l (h % 2) := by
  have key : ∀ (l : Lane) (p : Fin 2), roleOf (sSem l p.val) = .snd l p.val := by decide +kernel
  have e : sSem l h = sSem l (h % 2) := by unfold sSem; rw [Nat.mod_mod]
  rw [e]; exact key l ⟨h % 2, Nat.mod_lt _ (by decide)⟩
theorem role_rcv (l : Lane) {h : ℕ} (hh : h < 8) : roleOf (rSem l h) = .rcv l h := by
  have key : ∀ (l : Lane) (h : Fin 8), roleOf (rSem l h.val) = .rcv l h.val := by decide +kernel
  exact key l ⟨h, hh⟩

theorem len_le (l : Lane) : len l ≤ 8 := by revert l; decide
theorem len_ge (l : Lane) : 7 ≤ len l := by revert l; decide

theorem org_tgt (d : Bool) {h : ℕ} (hh : h < 8) (c : Dev nD) : org d (h + 1) (tgt d c) = org d h c := by
  have key : ∀ (d : Bool) (h : Fin 8) (c : Dev nD), org d (h.val + 1) (tgt d c) = org d h.val c := by decide +kernel
  exact key d ⟨h, hh⟩ c
theorem org_pred (d : Bool) {h : ℕ} (hh : h < 8) (c : Dev nD) : org d h (tgt (!d) c) = org d (h + 1) c := by
  have key : ∀ (d : Bool) (h : Fin 8) (c : Dev nD), org d h.val (tgt (!d) c) = org d (h.val + 1) c := by decide +kernel
  exact key d ⟨h, hh⟩ c
theorem tgt_pred (d : Bool) (c : Dev nD) : tgt d (tgt (!d) c) = c := by revert d c; decide +kernel

/-! ## Amounts -/

/-- The credit of half a block, and of a whole one. -/
@[irreducible] def N : ℕ := (blkM 0 false).view.dmaCredit
@[irreducible] def NO : ℕ := (ownM 0).view.dmaCredit
theorem numel_half : 0 < S1024x2048.numel := by decide +kernel
theorem numel_own : 0 < S2048x2048.numel := by decide +kernel
theorem N_pos : 0 < N := by unfold N; exact View.dmaCredit_pos _ numel_half
theorem NO_pos : 0 < NO := by unfold NO; exact View.dmaCredit_pos _ numel_own

/-! ## Payloads -/

/-- The share of the product the first hop of direction `d` reads, and the own copy's. -/
def shr (d : Bool) : PosShare TreeShare := if d then fullShare.right.left else fullShare.left
def shrO : PosShare TreeShare := fullShare.right.right

/-- What hop `h` of a lane reads on device `c`: the product's half first, then the rows that landed. -/
def srcPts (c : Dev nD) (l : Lane) (h : ℕ) : sProp 𝕄 :=
  if h = 0 then halfPts c l.2 (shr l.1) (pC m c) else blkPts c (org l.1 h c) l.2 (fin m)

theorem srcPts_zero (c : Dev nD) (l : Lane) : srcPts m c l 0 = halfPts c l.2 (shr l.1) (pC m c) := if_pos rfl
theorem srcPts_succ (c : Dev nD) (l : Lane) (h : ℕ) : srcPts m c l (h + 1) = blkPts c (org l.1 (h + 1) c) l.2 (fin m) := if_neg (Nat.succ_ne_zero h)

/-- The rows on the target that hop `h` of a lane writes, at any contents. -/
def dstPts (c : Dev nD) (l : Lane) (h : ℕ) : sProp 𝕄 := iprop(∃ f, blkPts (F := F) (tgt l.1 c) (org l.1 h c) l.2 f)
def barPay (c : Dev nD) (d : Bool) : sProp 𝕄 :=
  bigSep (Finset.univ : Finset Bool) fun j => bigSep (Finset.range (len (d, j))) fun h => dstPts (F := F) c (d, j) h
def ownPay (c : Dev nD) : sProp 𝕄 := iprop(ownPts c (fin m) ∗ cPts c shrO (pC m c))

instance srcPts_storable (c : Dev nD) (l : Lane) (h : ℕ) : BI.Storable (upEmb : UEmb _ 𝕄) (srcPts m c l h) := by
  unfold srcPts; split <;> infer_instance
instance dstPts_storable (c : Dev nD) (l : Lane) (h : ℕ) : BI.Storable (upEmb : UEmb _ 𝕄) (dstPts (F := F) c l h) := by
  unfold dstPts; infer_instance
instance barPay_storable (c : Dev nD) (d : Bool) : BI.Storable (upEmb : UEmb _ 𝕄) (barPay (F := F) c d) := by
  unfold barPay; infer_instance
instance ownPay_storable (c : Dev nD) : BI.Storable (upEmb : UEmb _ 𝕄) (ownPay m c) := by
  unfold ownPay; infer_instance

def roleDuties : Role → ℕ → Finset Bool
  | .own, r => if r = 0 then {false} else ∅
  | .snd l p, r => if 2 * r + p < len l then {false} else ∅
  | .rcv l h, r => if r = 0 ∧ h < len l then {false} else ∅
  | .other, _ => ∅
def roleAmount : Role → ℕ
  | .own => NO
  | _ => N
def rolePay (c : Dev nD) : Role → ℕ → sProp 𝕄
  | .own, _ => ownPay m c
  | .snd l p, r => srcPts m c l (2 * r + p)
  | .rcv l h, _ => srcPts m c l (h + 1)
  | .other, _ => iprop(emp)

instance rolePay_storable (c : Dev nD) (k : Role) (r : ℕ) : BI.Storable (upEmb : UEmb _ 𝕄) (rolePay m c k r) := by
  cases k <;> unfold rolePay <;> infer_instance

/-- The schedule. -/
def ringRd : Rounds.Schedule (GSem nD τ sig) Bool 𝕄 where
  duties g r := match g.2 with
    | .reg _ => if r = 0 then Finset.univ else ∅
    | .dma q => roleDuties (roleOf q) r
  unitless _ := False
  amount g _ _ := match g.2 with
    | .reg _ => 1
    | .dma q => roleAmount (roleOf q)
  payload g r d := match g.2 with
    | .reg _ => barPay (F := F) g.1.1 d
    | .dma q => rolePay m g.1.1 (roleOf q) r
  amount_pos g _ _ _ := by
    rcases g with ⟨t, q | q⟩
    · exact Nat.one_pos
    · show 0 < roleAmount (roleOf q)
      cases roleOf q with
      | own => exact NO_pos
      | snd l p => exact N_pos
      | rcv l h => exact N_pos
      | other => exact N_pos

instance ringRd_payload_storable (g : GSem nD τ sig) (r : ℕ) (d : Bool) : BI.Storable (upEmb : UEmb _ 𝕄) ((ringRd m).payload g r d) := by
  rcases g with ⟨t, q | q⟩
  · exact barPay_storable t.1 d
  · exact rolePay_storable m t.1 (roleOf q) r

section
variable (c : Dev nD) (l : Lane)

theorem duties_bar : (ringRd m).duties (barC c) 0 = Finset.univ := rfl
theorem duties_rcv {h : ℕ} (hh : h < len l) : (ringRd m).duties (rC c l h) 0 = {false} := by
  show roleDuties (roleOf (rSem l h)) 0 = _
  rw [role_rcv l (lt_of_lt_of_le hh (len_le l))]; exact if_pos ⟨rfl, hh⟩
theorem duties_snd {h : ℕ} (hh : h < len l) : (ringRd m).duties (sC c l h) (h / 2) = {false} := by
  show roleDuties (roleOf (sSem l h)) (h / 2) = _
  rw [role_snd]; exact if_pos (by omega)
theorem duties_own : (ringRd m).duties (oC c) 0 = {false} := by
  show roleDuties (roleOf oSem) 0 = _
  rw [role_own]; rfl

theorem later_bar : ∀ r, 1 ≤ r → (ringRd m).duties (barC c) r = ∅ := fun r hr => if_neg (by omega)
theorem later_own : ∀ r, 1 ≤ r → (ringRd m).duties (oC c) r = ∅ := fun r hr => by
  show roleDuties (roleOf oSem) r = _
  rw [role_own]; exact if_neg (by omega)
theorem later_rcv {h : ℕ} (hh : h < 8) : ∀ r, 1 ≤ r → (ringRd m).duties (rC c l h) r = ∅ := fun r hr => by
  show roleDuties (roleOf (rSem l h)) r = _
  rw [role_rcv l hh]; exact if_neg (by omega)
theorem unused_rcv {h : ℕ} (hh : h < 8) (hl : len l ≤ h) : ∀ r, 0 ≤ r → (ringRd m).duties (rC c l h) r = ∅ := fun r hr => by
  show roleDuties (roleOf (rSem l h)) r = _
  rw [role_rcv l hh]; exact if_neg (by omega)
theorem later_snd {h : ℕ} (hl : len l ≤ h + 2) : ∀ r, h / 2 + 1 ≤ r → (ringRd m).duties (sC c l h) r = ∅ := fun r hr => by
  show roleDuties (roleOf (sSem l h)) r = _
  rw [role_snd]; exact if_neg (by omega)

theorem amount_bar (r : ℕ) (d : Bool) : (ringRd m).amount (barC c) r d = 1 := rfl
theorem amount_rcv {h : ℕ} (hh : h < 8) (r : ℕ) (d : Bool) : (ringRd m).amount (rC c l h) r d = N := by
  show roleAmount (roleOf (rSem l h)) = _
  rw [role_rcv l hh]; rfl
theorem amount_snd (h : ℕ) (r : ℕ) (d : Bool) : (ringRd m).amount (sC c l h) r d = N := by
  show roleAmount (roleOf (sSem l h)) = _
  rw [role_snd]; rfl
theorem amount_own (r : ℕ) (d : Bool) : (ringRd m).amount (oC c) r d = NO := by
  show roleAmount (roleOf oSem) = _
  rw [role_own]; rfl

theorem expect_bar : (ringRd m).expect (barC c) 0 = 2 := by
  unfold Schedule.expect Schedule.amountOf
  rw [duties_bar, Finset.sum_congr rfl fun d _ => amount_bar m c 0 d, Finset.sum_const, Finset.card_univ, Fintype.card_bool, smul_eq_mul]
theorem expect_rcv {h : ℕ} (hh : h < len l) : (ringRd m).expect (rC c l h) 0 = N := by
  unfold Schedule.expect Schedule.amountOf
  rw [duties_rcv m c l hh, Finset.sum_singleton, amount_rcv m c l (lt_of_lt_of_le hh (len_le l))]
theorem expect_snd {h : ℕ} (hh : h < len l) : (ringRd m).expect (sC c l h) (h / 2) = N := by
  unfold Schedule.expect Schedule.amountOf
  rw [duties_snd m c l hh, Finset.sum_singleton]
  exact amount_snd m c l h (h / 2) false
theorem expect_one {g : GSem nD τ sig} {r k : ℕ} (hd : (ringRd m).duties g r = {false}) (ha : ∀ d, (ringRd m).amount g r d = k) : (ringRd m).expect g r = k := by
  unfold Schedule.expect Schedule.amountOf
  rw [hd, Finset.sum_singleton]
  exact ha false
theorem expect_own : (ringRd m).expect (oC c) 0 = NO := expect_one m (duties_own m c) (amount_own m c 0)

theorem payload_bar (r : ℕ) (d : Bool) : (ringRd m).payload (barC c) r d = barPay (F := F) c d := rfl
theorem payload_rcv {h : ℕ} (hh : h < 8) (r : ℕ) (d : Bool) : (ringRd m).payload (rC c l h) r d = srcPts m c l (h + 1) := by
  show rolePay m c (roleOf (rSem l h)) r = _
  rw [role_rcv l hh]; rfl
theorem payload_snd (h : ℕ) (d : Bool) : (ringRd m).payload (sC c l h) (h / 2) d = srcPts m c l h := by
  show rolePay m c (roleOf (sSem l h)) (h / 2) = _
  rw [role_snd]; show srcPts m c l (2 * (h / 2) + h % 2) = _
  rw [Nat.div_add_mod]
theorem payload_own (r : ℕ) (d : Bool) : (ringRd m).payload (oC c) r d = ownPay m c := by
  show rolePay m c (roleOf oSem) r = _
  rw [role_own]; rfl

theorem rest_bar : bigSep ((ringRd m).duties (barC c) 0 \ ∅) (fun d => (ringRd m).payload (barC c) 0 d) = iprop(barPay (F := F) c false ∗ barPay c true) := by
  rw [Finset.sdiff_empty, duties_bar, bigSep_univ_eq_bigSepL [false, true] (by decide) (by decide), bigSepL_cons_cons, bigSepL_singleton]
  rfl
theorem rest_rcv {h : ℕ} (hh : h < len l) : bigSep ((ringRd m).duties (rC c l h) 0 \ ∅) (fun d => (ringRd m).payload (rC c l h) 0 d) = srcPts m c l (h + 1) := by
  rw [Finset.sdiff_empty, duties_rcv m c l hh, bigSep_singleton, payload_rcv m c l (lt_of_lt_of_le hh (len_le l))]
theorem rest_snd {h : ℕ} (hh : h < len l) : bigSep ((ringRd m).duties (sC c l h) (h / 2) \ ∅) (fun d => (ringRd m).payload (sC c l h) (h / 2) d) = srcPts m c l h := by
  rw [Finset.sdiff_empty, duties_snd m c l hh, bigSep_singleton]
  exact payload_snd m c l h false
theorem rest_own : bigSep ((ringRd m).duties (oC c) 0 \ ∅) (fun d => (ringRd m).payload (oC c) 0 d) = ownPay m c := by
  rw [Finset.sdiff_empty, duties_own m c, bigSep_singleton]
  exact payload_own m c 0 false

end

/-! ## Levels, and what a device owes -/

def L (g : GSem nD τ sig) : Finset Unit := if g.1.2 = .tc then {()} else ∅
def roleLev : Role → ℕ
  | .rcv _ h => h + 2
  | _ => 0
/-- The barrier at 1, the landing of hop `h` at `h + 2`, all else at 0. -/
def lv (g : GSem nD τ sig) (_ : Unit) : ℕ := match g.2 with
  | .reg _ => 1
  | .dma q => roleLev (roleOf q)

theorem L_of_ne (g : GSem nD τ sig) (h : g.1.2 ≠ .tc) : L g = ∅ := if_neg h
theorem L_tc (g : GSem nD τ sig) (h : g.1.2 = .tc) : L g = {()} := if_pos h
theorem lv_bar (c : Dev nD) : lv (barC c) () = 1 := rfl
theorem lv_rcv (c : Dev nD) (l : Lane) {h : ℕ} (hh : h < 8) : lv (rC c l h) () = h + 2 := by
  show roleLev (roleOf (rSem l h)) = _
  rw [role_rcv l hh]; rfl
theorem lv_snd (c : Dev nD) (l : Lane) (h : ℕ) : lv (sC c l h) () = 0 := by
  show roleLev (roleOf (sSem l h)) = _
  rw [role_snd]; rfl
theorem lv_own (c : Dev nD) : lv (oC c) () = 0 := by
  show roleLev (roleOf oSem) = _
  rw [role_own]; rfl

/-- All that `O` owes lies at level `n` or higher. -/
def Above (n : ℕ) (O : CellTallies nD τ sig Unit) : Prop := ∀ g u, 0 < O g u → g.1.2 = .tc ∧ n ≤ lv g u

theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.mono {n n' : ℕ} {O : CellTallies nD τ sig Unit} (h : Above n O) (hn : n' ≤ n) : Above n' O := fun g u hg => ⟨(h g u hg).1, hn.trans (h g u hg).2⟩
theorem Above.zero (n : ℕ) : Above n 0 := fun g u hg => absurd hg (Nat.lt_irrefl 0)
theorem Above.tally {n : ℕ} {g : GSem nD τ sig} (k : ℕ) (ht : g.1.2 = .tc) (hn : n ≤ lv g ()) : Above n (tallyAt g () k) := fun g' u hg => by
  rw [tallyAt_apply] at hg
  by_cases h : g' = g ∧ u = ()
  · rw [h.1]; exact ⟨ht, hn⟩
  · rw [if_neg h] at hg; exact absurd hg (Nat.lt_irrefl 0)

/-- What a device still owes a lane's target from hop `a` on. -/
def owe (c : Dev nD) (l : Lane) (a : ℕ) : CellTallies nD τ sig Unit := ∑ h ∈ Finset.Ico a (len l), tallyAt (rC (tgt l.1 c) l h) () N

theorem owe_step (c : Dev nD) (l : Lane) {a : ℕ} (ha : a < len l) : owe c l a = owe c l (a + 1) + tallyAt (rC (tgt l.1 c) l a) () N := by
  unfold owe; rw [Finset.sum_eq_sum_Ico_succ_bot ha, add_comm]
theorem owe_end (c : Dev nD) (l : Lane) {a : ℕ} (ha : len l ≤ a) : owe c l a = 0 := by
  unfold owe; rw [Finset.Ico_eq_empty (by omega), Finset.sum_empty]

theorem owe_above (c : Dev nD) (l : Lane) (a : ℕ) : Above (a + 2) (owe c l a) := by
  have key : ∀ k a, len l = a + k → Above (a + 2) (owe c l a) := by
    intro k
    induction k with
    | zero => intro a h; rw [owe_end c l (by omega)]; exact Above.zero _
    | succ k ih =>
      intro a h
      rw [owe_step c l (by omega)]
      have := len_le l
      exact ((ih (a + 1) (by omega)).mono (by omega)).add (Above.tally N rfl (by rw [lv_rcv _ _ (by omega)]))
  by_cases h : a ≤ len l
  · exact key (len l - a) a (by omega)
  · rw [owe_end c l (by omega)]; exact Above.zero _

theorem mayWait {c : Dev nD} {sm : SemLoc sig} {n : ℕ} {O : CellTallies nD τ sig Unit} (hn : lv ((c : Thread nD τ), sm) () < n) (hO : Above n O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc _ rfl]; exact Finset.mem_singleton_self _)
    (fun g u hg => by rw [L_tc _ (hO g u hg).1]; exact Finset.mem_singleton_self _)
    (fun p hp => by rw [Finset.mem_singleton.mp hp])
    (fun g u hg => lt_of_lt_of_le hn (hO g u hg).2)

/-- All four lanes from the given hops on. -/
def tot (c : Dev nD) (a b e f : ℕ) : CellTallies nD τ sig Unit :=
  ((owe c (false, false) a + owe c (true, false) b) + owe c (false, true) e) + owe c (true, true) f
/-- What device `c` owes at launch: its first hops' landings and all later ones, and a unit to each neighbour's barrier. -/
def O₀ (c : Dev nD) : CellTallies nD τ sig Unit := (tot c 0 0 0 0 + tallyAt (barC (tgt false c)) () 1) + tallyAt (barC (tgt true c)) () 1

theorem tot_above (c : Dev nD) {n a b e f : ℕ} (ha : n ≤ a) (hb : n ≤ b) (he : n ≤ e) (hf : n ≤ f) : Above (n + 2) (tot c a b e f) :=
  ((((owe_above c _ a).mono (by omega)).add ((owe_above c _ b).mono (by omega))).add ((owe_above c _ e).mono (by omega))).add ((owe_above c _ f).mono (by omega))
theorem O₀_above (c : Dev nD) : Above 1 (O₀ c) :=
  (((tot_above c (n := 0) (Nat.le_refl _) (Nat.le_refl _) (Nat.le_refl _) (Nat.le_refl _)).mono (by omega)).add (Above.tally 1 rfl (by rw [lv_bar]))).add
    (Above.tally 1 rfl (by rw [lv_bar]))

end Cert.KernelIdeal.Ring

end
-- ==== Proof.Lane.lean ====
/-
One operation of a lane at a time, then one hop, as steps of a device's run.

What a lane holds before hop `h` (`St`): the credits and positions of the landings still to wait for, the rows and
tokens of the hops still to send, the sources already back, and the two hops whose reading is still pending.
-/
module

public import proofs.«01_k».proof.Proof.Sched

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The run of `p` on device `c`. -/
abbrev WP (c : Dev nD) (p : PP F) (Q : PUnit → sProp 𝕄) : sProp 𝕄 :=
  wp frame (wpE (defs₀ (F := F)) 𝒱₀ (c : Thread nD τ) none) Set.univ p Q

/-! ## The cells' invariants -/

/-- A cell's invariant, under some name, and that its round 0 is reached. -/
def cellRec (g : GSem nD τ sig) : sProp 𝕄 := iprop(∃ κ, cellInv ER (ringRd m) κ g ∗ reached ER g 0)
instance cellRec_persistent (g : GSem nD τ sig) : BI.Persistent (cellRec m g) := by unfold cellRec; infer_instance

/-- A device's cells: the barrier, then the DMA semaphores from the third on. -/
def csem (k : Fin 42) : SemLoc sig := if k.val = 0 then .reg barS else .dma (Fin.ofNat 43 (k.val + 1) : Fin 43)
abbrev kcell (ck : Dev nD × Fin 42) : GSem nD τ sig := ((ck.1 : Thread nD τ), csem ck.2)

def records : sProp 𝕄 := bigSep (Finset.univ : Finset (Dev nD × Fin 42)) fun ck => cellRec m (kcell ck)
instance records_persistent : BI.Persistent (records m) := by unfold records; infer_instance

theorem csem_bar : csem 0 = .reg barS := rfl
theorem csem_own : csem 41 = .dma oSem := by decide +kernel
theorem csem_rcv (l : Lane) {h : ℕ} (hh : h < 8) : ∃ k, csem k = .dma (rSem l h) := by
  have key : ∀ (l : Lane) (h : Fin 8), ∃ k, csem k = .dma (rSem l h.val) := by decide +kernel
  exact key l ⟨h, hh⟩
theorem csem_snd (l : Lane) (h : ℕ) : ∃ k, csem k = .dma (sSem l h) := by
  have key : ∀ (l : Lane) (p : Fin 2), ∃ k, csem k = .dma (sSem l p.val) := by decide +kernel
  have e : sSem l h = sSem l (h % 2) := by unfold sSem; rw [Nat.mod_mod]
  rw [e]; exact key l ⟨h % 2, Nat.mod_lt _ (by decide)⟩

theorem records_at (c : Dev nD) (k : Fin 42) : records m ⊢ cellRec m (kcell (c, k)) := by
  unfold records
  exact bigSep_elim (Finset.mem_univ (c, k))
theorem records_bar (c : Dev nD) : records m ⊢ cellRec m (barC c) := records_at m c 0
theorem records_own (c : Dev nD) : records m ⊢ cellRec m (oC c) := by
  have h := records_at m c 41
  unfold kcell at h; rw [csem_own] at h; exact h
theorem records_rcv (c : Dev nD) (l : Lane) {h : ℕ} (hh : h < 8) : records m ⊢ cellRec m (rC c l h) := by
  obtain ⟨k, hk⟩ := csem_rcv l hh
  have h := records_at m c k
  unfold kcell at h; rw [hk] at h; exact h
theorem records_snd (c : Dev nD) (l : Lane) (h : ℕ) : records m ⊢ cellRec m (sC c l h) := by
  obtain ⟨k, hk⟩ := csem_snd l h
  have h := records_at m c k
  unfold kcell at h; rw [hk] at h; exact h

/-- What every step may use. -/
def env : sProp 𝕄 := iprop(records m ∗ levAts L lv)
instance env_persistent : BI.Persistent (env m) := by unfold env; infer_instance

def ow (c : Dev nD) (O : CellTallies nD τ sig Unit) : sProp 𝕄 := iprop(∃ W, owes (c : Thread nD τ) O W)

/-! ## What a lane holds -/

def Pos (c : Dev nD) (l : Lane) (h : ℕ) : sProp 𝕄 := iprop(atPos ER (sC c l h) (h / 2) ∅ 0 ∗ reached ER (sC c l h) (h / 2))
def Snt (c : Dev nD) (l : Lane) (h : ℕ) : sProp 𝕄 := iprop(cred (tallyAt (sC c l h) () N) ∗ atPos ER (sC c l h) (h / 2) ∅ 0)
def In1 (c : Dev nD) (l : Lane) (h : ℕ) : sProp 𝕄 := iprop(cred (tallyAt (rC c l h) () N) ∗ atPos ER (rC c l h) 0 ∅ 0)
def Out1 (c : Dev nD) (l : Lane) (h : ℕ) : sProp 𝕄 :=
  iprop(dstPts (F := F) c l h ∗ dutyTok ER (sC c l h) (h / 2) false ∗ dutyTok ER (rC (tgt l.1 c) l h) 0 false)

def In (c : Dev nD) (l : Lane) (a : ℕ) : sProp 𝕄 := bigSep (Finset.Ico a (len l)) fun h => In1 (F := F) c l h
def Out (c : Dev nD) (l : Lane) (a : ℕ) : sProp 𝕄 := bigSep (Finset.Ico a (len l)) fun h => Out1 (F := F) c l h
def Past (c : Dev nD) (l : Lane) (a : ℕ) : sProp 𝕄 := bigSep (Finset.range a) fun h => atPos ER (rC c l h) 1 ∅ 0
def Got (c : Dev nD) (l : Lane) (a : ℕ) : sProp 𝕄 := bigSep (Finset.range a) fun h => srcPts m c l h

theorem sSem_add_two (l : Lane) (h : ℕ) : sSem l (h + 2) = sSem l h := by
  unfold sSem; rw [Nat.add_mod_right]
theorem sC_add_two (c : Dev nD) (l : Lane) (h : ℕ) : sC c l (h + 2) = sC c l h := by
  show ((c : Thread nD τ), SemLoc.dma (sSem l (h + 2))) = _
  rw [sSem_add_two]

theorem credit_ref_out : (main_v1 : Ref sig .tc).dmaCredit S1024x2048 .bf16 = N := by unfold N; rfl
theorem credit_ref_scr : (cc0_scratch0 : Ref sig .tc).dmaCredit S1024x2048 .bf16 = N := by unfold N; rfl
theorem credit_blk (o : Dev nD) (j : Bool) : (blkM o j).view.dmaCredit = N := by unfold N; rfl
theorem credit_own (o : Dev nD) : (ownM o).view.dmaCredit = NO := by unfold NO; rfl
theorem credit_ref_own : (main_v1 : Ref sig .tc).dmaCredit S2048x2048 .bf16 = NO := by unfold NO; rfl

end Cert.KernelIdeal.Ring

end
-- ==== Proof.Steps.lean ====
/-
Each operation of a lane, as a step: what it takes and what it leaves.
-/
module

public import proofs.«01_k».proof.Proof.Lane

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (l : Lane)

/-- A wait for a landing hands over the rows that landed. -/
theorem wp_waitR {h : ℕ} (hh : h < len l) {O : CellTallies nD τ sig Unit} (hO : Above (h + 3) O) {k : PP F} {Q : PUnit → sProp 𝕄} :
    iprop(env m ∗ In1 c l h ∗ ow c O)
      ⊢ iprop(((ow c O ∗ atPos ER (rC c l h) 1 ∅ 0 ∗ srcPts m c l (h + 1)) -∗ WP c k Q) -∗ WP c (waitR l h k) Q) := by
  have h8 : h < 8 := lt_of_lt_of_le hh (len_le l)
  unfold env In1 ow waitR opWait
  iintro ⟨⟨#Hrec, #Hlev⟩, ⟨Hc, Hat⟩, ⟨%W, HO⟩⟩ Hk
  ihave Hcell := (records_rcv m c l h8) $$ Hrec
  unfold cellRec
  icases Hcell with ⟨%κ, #HI, -⟩
  iapply (Rounds.wp_wait_rest_token 𝒱₀ ER (ringRd m) (c : Thread nD τ) none (κ := κ)
      (wpE_waitDma_eq 𝒱₀ (c : Thread nD τ) none Set.univ) (Set.mem_univ _) () (O := O) (W := W) (R := 0) (m := 0) (T := ∅)
      (by rw [Nat.zero_add, credit_ref_out]; exact (expect_rcv m c l hh).symm)) $$ [Hc HO Hat]
  · isplitr; · iexact HI
    isplitl [Hc]; · rw [credit_ref_out]; iexact Hc
    isplitl [HO]; · iexact HO
    isplitr; · iapply (mayWait (c := c) (n := h + 3) (by rw [lv_rcv c l h8]; omega) hO); iexact Hlev
    iexact Hat
  iintro ⟨HO, Hat, -, Hp⟩
  ihave Hp := (Entails.of_eq (rest_rcv m c l hh)) $$ Hp
  iapply Hk
  isplitl [HO]; · iexists _; iexact HO
  isplitl [Hat]; · iexact Hat
  iexact Hp

/-- A wait for a reading gives the source back. -/
theorem wp_waitS {h : ℕ} (hh : h < len l) {O : CellTallies nD τ sig Unit} (hO : Above 1 O) {k : PP F} {Q : PUnit → sProp 𝕄} :
    iprop(env m ∗ Snt c l h ∗ ow c O)
      ⊢ iprop(((ow c O ∗ Pos c l (h + 2) ∗ srcPts m c l h) -∗ WP c k Q) -∗ WP c (waitS l h k) Q) := by
  have hcr : (if h = 0 then cc0_scratch0 else main_v1 : Ref sig .tc).dmaCredit S1024x2048 .bf16 = N := by
    split
    · exact credit_ref_scr
    · exact credit_ref_out
  have hdiv : (h + 2) / 2 = h / 2 + 1 := by omega
  unfold env Snt Pos ow waitS opWait
  rw [sC_add_two, hdiv]
  iintro ⟨⟨#Hrec, #Hlev⟩, ⟨Hc, Hat⟩, ⟨%W, HO⟩⟩ Hk
  ihave Hcell := (records_snd m c l h) $$ Hrec
  unfold cellRec
  icases Hcell with ⟨%κ, #HI, -⟩
  iapply (Rounds.wp_wait_rest_token 𝒱₀ ER (ringRd m) (c : Thread nD τ) none (κ := κ)
      (wpE_waitDma_eq 𝒱₀ (c : Thread nD τ) none Set.univ) (Set.mem_univ _) () (O := O) (W := W) (R := h / 2) (m := 0) (T := ∅)
      (by rw [Nat.zero_add, hcr]; exact (expect_snd m c l hh).symm)) $$ [Hc HO Hat]
  · isplitr; · iexact HI
    isplitl [Hc]; · rw [hcr]; iexact Hc
    isplitl [HO]; · iexact HO
    isplitr; · iapply (mayWait (c := c) (n := 1) (by rw [lv_snd c l h]; omega) hO); iexact Hlev
    iexact Hat
  iintro ⟨HO, Hat, #Hre, Hp⟩
  ihave Hp := (Entails.of_eq (rest_snd m c l hh)) $$ Hp
  iapply Hk
  isplitl [HO]; · iexists _; iexact HO
  isplitl [Hat]
  · isplitl [Hat]; · iexact Hat
    iexact Hre
  iexact Hp

/-- A later hop. -/
theorem wp_fwd {h : ℕ} (h1 : 1 ≤ h) (hh : h < len l) {O O' : CellTallies nD τ sig Unit} (hO : O = O' + tallyAt (rC (tgt l.1 c) l h) () N)
    {k : PP F} {Q : PUnit → sProp 𝕄} :
    iprop(env m ∗ srcPts m c l h ∗ Pos c l h ∗ Out1 c l h ∗ ow c O)
      ⊢ iprop(((ow c O' ∗ Snt c l h) -∗ WP c k Q) -∗ WP c (fwd c l h k) Q) := by
  have h8 : h < 8 := lt_of_lt_of_le hh (len_le l)
  obtain ⟨g, rfl⟩ : ∃ g, h = g + 1 := ⟨h - 1, by omega⟩
  unfold env Snt Pos Out1 dstPts ow fwd opFwd
  rw [srcPts_succ]
  iintro ⟨⟨#Hrec, #Hlev⟩, Hsrc, ⟨Hat, #Hre⟩, ⟨⟨%fd, Hdst⟩, Ht1, Ht2⟩, ⟨%W, HO⟩⟩ Hk
  ihave Hcell := (records_snd m c l (g + 1)) $$ Hrec
  ihave Hcell' := (records_rcv m (tgt l.1 c) l h8) $$ Hrec
  unfold cellRec
  icases Hcell with ⟨%κ₁, #HI₁, -⟩
  icases Hcell' with ⟨%κ₂, #HI₂, #Hre₂⟩
  unfold blkPts
  iapply (Rounds.wp_send_pointsTo 𝒱₀ ER (ringRd m) (c : Thread nD τ) none (κ₁ := κ₁) (κ₂ := κ₂)
    (r₁ := (g + 1) / 2) (r₂ := 0) (d₁ := false) (d₂ := false) (fd := fd)
    (by rw [duties_snd m c l hh]; exact Finset.mem_singleton_self _) (by rw [duties_rcv m (tgt l.1 c) l hh]; exact Finset.mem_singleton_self _)
    () () N (by exact credit_blk (org l.1 (g + 1) c) l.2) (amount_snd m c l (g + 1) _ false) (amount_rcv m (tgt l.1 c) l h8 0 false) O' hO (W := W)
    (by rw [payload_snd, srcPts_succ]; exact BI.Entails.refl _)
    (by
      rw [payload_rcv m (tgt l.1 c) l h8, srcPts_succ, org_tgt l.1 h8 c]
      exact Entails.of_eq (land_fwd m (tgt l.1 c) (org l.1 (g + 1) c) l.2 fd))) $$ [Hsrc Hdst HO Ht1 Ht2]
  · isplitr; · iexact HI₁
    isplitr; · iexact HI₂
    isplitl [Hsrc]; · iexact Hsrc
    isplitl [Hdst]; · iexact Hdst
    isplitl [HO]; · iexact HO
    isplitl [Ht1]; · iexact Ht1
    isplitr; · iexact Hre
    isplitl [Ht2]; · iexact Ht2
    iexact Hre₂
  iintro ⟨Hc, HO⟩
  iapply Hk
  isplitl [HO]; · iexists _; iexact HO
  isplitl [Hc]; · iexact Hc
  iexact Hat

/-- A first hop. -/
theorem wp_send0 {O O' : CellTallies nD τ sig Unit} (hO : O = O' + tallyAt (rC (tgt l.1 c) l 0) () N)
    {k : PP F} {Q : PUnit → sProp 𝕄} :
    iprop(env m ∗ halfPts c l.2 (shr l.1) (pC m c) ∗ atPos ER (sC c l 0) 0 ∅ 0 ∗ Out1 c l 0 ∗ ow c O)
      ⊢ iprop(((ow c O' ∗ Snt c l 0) -∗ WP c k Q) -∗ WP c (send0 c l k) Q) := by
  have hh : 0 < len l := by have := len_ge l; omega
  unfold env Snt Out1 dstPts ow send0 opSend
  iintro ⟨⟨#Hrec, #Hlev⟩, Hsrc, Hat, ⟨⟨%fd, Hdst⟩, Ht1, Ht2⟩, ⟨%W, HO⟩⟩ Hk
  ihave Hcell := (records_snd m c l 0) $$ Hrec
  ihave Hcell' := (records_rcv m (tgt l.1 c) l (h := 0) (by decide)) $$ Hrec
  unfold cellRec
  icases Hcell with ⟨%κ₁, #HI₁, #Hre⟩
  icases Hcell' with ⟨%κ₂, #HI₂, #Hre₂⟩
  rw [org_zero]
  unfold blkPts halfPts
  iapply (Rounds.wp_send_pointsTo 𝒱₀ ER (ringRd m) (c : Thread nD τ) none (κ₁ := κ₁) (κ₂ := κ₂)
    (r₁ := 0) (r₂ := 0) (d₁ := false) (d₂ := false) (fd := fd)
    (by rw [show (0 : ℕ) = 0 / 2 from rfl, duties_snd m c l hh]; exact Finset.mem_singleton_self _)
    (by rw [duties_rcv m (tgt l.1 c) l hh]; exact Finset.mem_singleton_self _)
    () () N (by exact credit_blk c l.2) (amount_snd m c l 0 _ false) (amount_rcv m (tgt l.1 c) l (by decide) 0 false) O' hO (W := W)
    (by
      have hp := payload_snd m c l 0 false
      rw [show (0 : ℕ) / 2 = 0 from rfl, srcPts_zero] at hp
      rw [hp]; exact BI.Entails.refl _)
    (by
      rw [payload_rcv m (tgt l.1 c) l (by decide), srcPts_succ, org_tgt l.1 (by decide) c, org_zero]
      exact Entails.of_eq (land_send m c (tgt l.1 c) l.2 fd))) $$ [Hsrc Hdst HO Ht1 Ht2]
  · isplitr; · iexact HI₁
    isplitr; · iexact HI₂
    isplitl [Hsrc]; · iexact Hsrc
    isplitl [Hdst]; · iexact Hdst
    isplitl [HO]; · iexact HO
    isplitl [Ht1]; · iexact Ht1
    isplitr; · iexact Hre
    isplitl [Ht2]; · iexact Ht2
    iexact Hre₂
  iintro ⟨Hc, HO⟩
  iapply Hk
  isplitl [HO]; · iexists _; iexact HO
  isplitl [Hc]; · iexact Hc
  iexact Hat

/-- A signal to the neighbour in direction `d` hands over the rows that the neighbour will write coming back. -/
theorem wp_signal (d : Bool) {O O' : CellTallies nD τ sig Unit} (hO : O = O' + tallyAt (barC (tgt d c)) () 1)
    {k : PP F} {Q : PUnit → sProp 𝕄} :
    iprop(env m ∗ dutyTok ER (barC (tgt d c)) 0 (!d) ∗ barPay (tgt d c) (!d) ∗ ow c O)
      ⊢ iprop((ow c O' -∗ WP c k Q) -∗ WP c (signal c d k) Q) := by
  unfold env ow signal opSignal
  iintro ⟨⟨#Hrec, #Hlev⟩, Ht, Hp, ⟨%W, HO⟩⟩ Hk
  ihave Hcell := (records_bar m (tgt d c)) $$ Hrec
  unfold cellRec
  icases Hcell with ⟨%κ, #HI, #Hre⟩
  iapply (Rounds.wp_signal 𝒱₀ ER (ringRd m) (c : Thread nD τ) none (dst := (tgt d c : Thread nD τ)) (κ := κ)
      (r := 0) (d := !d) (by rw [duties_bar]; exact Finset.mem_univ _) ((amount_bar m (tgt d c) 0 (!d)).trans (by decide)) () O' hO) $$ [HO Ht Hp]
  · isplitr; · iexact HI
    isplitl [HO]; · iexact HO
    isplitl [Ht]; · iexact Ht
    isplitl [Hp]; · rw [payload_bar]; iexact Hp
    iexact Hre
  iintro HO
  iapply Hk
  iexists _; iexact HO

/-- The wait at the barrier: both neighbours' rows. -/
theorem wp_barrier {O : CellTallies nD τ sig Unit} (hO : Above 2 O) {k : PP F} {Q : PUnit → sProp 𝕄} :
    iprop(env m ∗ cred (tallyAt (barC c) () 2) ∗ atPos ER (barC c) 0 ∅ 0 ∗ ow c O)
      ⊢ iprop(((ow c O ∗ atPos ER (barC c) 1 ∅ 0 ∗ barPay c false ∗ barPay c true) -∗ WP c k Q) -∗ WP c (opBarrier k) Q) := by
  unfold env ow opBarrier
  iintro ⟨⟨#Hrec, #Hlev⟩, Hc, Hat, ⟨%W, HO⟩⟩ Hk
  ihave Hcell := (records_bar m c) $$ Hrec
  unfold cellRec
  icases Hcell with ⟨%κ, #HI, -⟩
  iapply (Rounds.wp_wait_rest_token 𝒱₀ ER (ringRd m) (c : Thread nD τ) none (κ := κ)
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply (mayWait (c := c) (n := 2) (by rw [lv_bar]; decide) hO); iexact Hlev
    iexact Hat
  iintro ⟨HO, Hat, -, Hp⟩
  ihave Hp := (Entails.of_eq (rest_bar m c)) $$ Hp
  iapply Hk
  isplitl [HO]; · iexists _; iexact HO
  isplitl [Hat]; · iexact Hat
  iexact Hp

/-- The copy of the product into the device's own rows. -/
theorem wp_ownCopy {k : PP F} {Q : PUnit → sProp 𝕄} (fd : (main_v1 : Ref sig .tc).ty.Contents (Elt F)) :
    iprop(env m ∗ cPts c shrO (pC m c) ∗ ownPts c fd ∗ dutyTok ER (oC c) 0 false)
      ⊢ iprop((cred (tallyAt (oC c) () NO) -∗ WP c k Q) -∗ WP c (ownCopy c k) Q) := by
  unfold env ownCopy opOwn
  iintro ⟨⟨#Hrec, #Hlev⟩, Hsrc, Hdst, Ht⟩ Hk
  ihave Hcell := (records_own m c) $$ Hrec
  unfold cellRec
  icases Hcell with ⟨%κ, #HI, #Hre⟩
  iapply (Rounds.wp_copy_pointsTo 𝒱₀ ER (ringRd m) (c : Thread nD τ) none (κ := κ) (r := 0) (d := false) (q := shrO) (fs := pC m c) (fd := fd)
    (by rw [duties_own m c]; exact Finset.mem_singleton_self _) () NO (by exact credit_own c) (amount_own m c 0 false)
    (by
      rw [payload_own m c 0 false]; unfold ownPay
      exact sep_mono_left (Entails.of_eq (land_own m c fd)))) $$ [Hsrc Hdst Ht]
  · isplitr; · iexact HI
    isplitl [Hsrc]; · unfold cPts; iexact Hsrc
    isplitl [Hdst]; · unfold ownPts; iexact Hdst
    isplitl [Ht]; · iexact Ht
    iexact Hre
  iexact Hk

theorem wp_waitOwn {O : CellTallies nD τ sig Unit} (hO : Above 1 O) {k : PP F} {Q : PUnit → sProp 𝕄} :
    iprop(env m ∗ cred (tallyAt (oC c) () NO) ∗ atPos ER (oC c) 0 ∅ 0 ∗ ow c O)
      ⊢ iprop(((ow c O ∗ atPos ER (oC c) 1 ∅ 0 ∗ ownPay m c) -∗ WP c k Q) -∗ WP c (opWaitOwn k) Q) := by
  unfold env ow opWaitOwn
  iintro ⟨⟨#Hrec, #Hlev⟩, Hc, Hat, ⟨%W, HO⟩⟩ Hk
  ihave Hcell := (records_own m c) $$ Hrec
  unfold cellRec
  icases Hcell with ⟨%κ, #HI, -⟩
  iapply (Rounds.wp_wait_rest_token 𝒱₀ ER (ringRd m) (c : Thread nD τ) none (κ := κ)
      (wpE_waitDma_eq 𝒱₀ (c : Thread nD τ) none Set.univ) (Set.mem_univ _) () (O := O) (W := W) (R := 0) (m := 0) (T := ∅)
      (by rw [Nat.zero_add, credit_ref_own]; exact (expect_own m c).symm)) $$ [Hc HO Hat]
  · isplitr; · iexact HI
    isplitl [Hc]; · rw [credit_ref_own]; iexact Hc
    isplitl [HO]; · iexact HO
    isplitr; · iapply (mayWait (c := c) (n := 1) (by rw [lv_own c]; decide) hO); iexact Hlev
    iexact Hat
  iintro ⟨HO, Hat, -, Hp⟩
  ihave Hp := (Entails.of_eq (rest_own m c)) $$ Hp
  iapply Hk
  isplitl [HO]; · iexists _; iexact HO
  isplitl [Hat]; · iexact Hat
  iexact Hp

end Cert.KernelIdeal.Ring

end
-- ==== Proof.Hop.lean ====
/-
One hop of a lane, the four lanes' hop, and a lane's end.
-/
module

public import proofs.«01_k».proof.Proof.Steps
public import Idealize.SL.BI.BigOpNat
public import Mathlib.Tactic.Abel

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (l : Lane)

/-- A lane before hop 1. -/
def St1 : sProp 𝕄 := iprop(In c l 0 ∗ Out c l 1 ∗ Snt c l 0 ∗ Pos c l 1)
/-- A lane before hop `h`, from 2 on. -/
def St (h : ℕ) : sProp 𝕄 :=
  iprop(In c l (h - 1) ∗ Past c l (h - 1) ∗ Out c l h ∗ Got m c l (h - 2) ∗ Snt c l (h - 2) ∗ Snt c l (h - 1))

/-- A lane whose last landing is in; then with the reading before the last done; then with all done. -/
def End1 : sProp 𝕄 := iprop(Past c l (len l) ∗ Got m c l (len l - 2) ∗ Snt c l (len l - 2) ∗ Snt c l (len l - 1) ∗ srcPts m c l (len l))
def End2 : sProp 𝕄 := iprop(Past c l (len l) ∗ Got m c l (len l - 1) ∗ Pos c l (len l) ∗ Snt c l (len l - 1) ∗ srcPts m c l (len l))
def End : sProp 𝕄 := iprop(Past c l (len l) ∗ Got m c l (len l + 1) ∗ Pos c l (len l) ∗ Pos c l (len l + 1))

theorem In_step {a : ℕ} (ha : a < len l) : (In c l a : sProp 𝕄) = iprop(In1 c l a ∗ In c l (a + 1)) := by
  unfold In; rw [bigSep_Ico_succ_bot ha]
theorem Out_step {a : ℕ} (ha : a < len l) : (Out c l a : sProp 𝕄) = iprop(Out1 c l a ∗ Out c l (a + 1)) := by
  unfold Out; rw [bigSep_Ico_succ_bot ha]
theorem Past_step (a : ℕ) : (Past c l (a + 1) : sProp 𝕄) = iprop(atPos ER (rC c l a) 1 ∅ 0 ∗ Past c l a) := by
  unfold Past; rw [bigSep_range_succ]
theorem Got_step (a : ℕ) : (Got m c l (a + 1) : sProp 𝕄) = iprop(srcPts m c l a ∗ Got m c l a) := by
  unfold Got; rw [bigSep_range_succ]

theorem wp_grp1 {O O' : CellTallies nD τ sig Unit} (hA : Above 3 O) (hO : O = O' + tallyAt (rC (tgt l.1 c) l 1) () N)
    {k : PP F} {Q : PUnit → sProp 𝕄} :
    iprop(env m ∗ St1 c l ∗ ow c O) ⊢ iprop(((ow c O' ∗ St m c l 2) -∗ WP c k Q) -∗ WP c (grp1 c l k) Q) := by
  have hl := len_ge l
  unfold St1 St grp1
  rw [In_step c l (a := 0) (by omega), Out_step c l (a := 1) (by omega)]
  show iprop(env m ∗ ((In1 c l 0 ∗ In c l 1) ∗ (Out1 c l 1 ∗ Out c l 2) ∗ Snt c l 0 ∗ Pos c l 1) ∗ ow c O)
    ⊢ iprop(((ow c O' ∗ (In c l 1 ∗ Past c l 1 ∗ Out c l 2 ∗ Got m c l 0 ∗ Snt c l 0 ∗ Snt c l 1)) -∗ WP c k Q) -∗ _)
  iintro ⟨#He, ⟨⟨Hi, Hin⟩, ⟨Ho1, Hout⟩, Hs, Hp⟩, HO⟩ Hk
  iapply (wp_waitR m c l (h := 0) (by omega) hA) $$ [Hi HO]
  · isplitr; · iexact He
    isplitl [Hi] <;> iassumption
  iintro ⟨HO, Hat, Hsrc⟩
  iapply (wp_fwd m c l (h := 1) (Nat.le_refl 1) (by omega) hO) $$ [Hsrc Hp Ho1 HO]
  · isplitr; · iexact He
    isplitl [Hsrc]; · iexact Hsrc
    isplitl [Hp]; · iexact Hp
    isplitl [Ho1] <;> iassumption
  iintro ⟨HO, Hs'⟩
  iapply Hk
  isplitl [HO]; · iexact HO
  isplitl [Hin]; · iexact Hin
  isplitl [Hat]
  · rw [show (1 : ℕ) = 0 + 1 from rfl, Past_step]
    isplitl [Hat]; · iexact Hat
    unfold Past; rw [Finset.range_zero, bigSep_empty]; iempintro
  isplitl [Hout]; · iexact Hout
  isplitr; · unfold Got; rw [Finset.range_zero, bigSep_empty]; iempintro
  isplitl [Hs] <;> iassumption

theorem wp_grp {h : ℕ} (h2 : 2 ≤ h) (hh : h < len l) {O O' : CellTallies nD τ sig Unit} (hA : Above (h + 2) O)
    (hO : O = O' + tallyAt (rC (tgt l.1 c) l h) () N) {k : PP F} {Q : PUnit → sProp 𝕄} :
    iprop(env m ∗ St m c l h ∗ ow c O) ⊢ iprop(((ow c O' ∗ St m c l (h + 1)) -∗ WP c k Q) -∗ WP c (grp c h l k) Q) := by
  obtain ⟨g, rfl⟩ : ∃ g, h = g + 2 := ⟨h - 2, by omega⟩
  unfold St grp
  show iprop(env m ∗ (In c l (g + 1) ∗ Past c l (g + 1) ∗ Out c l (g + 2) ∗ Got m c l g ∗ Snt c l g ∗ Snt c l (g + 1)) ∗ ow c O)
    ⊢ iprop(((ow c O' ∗ (In c l (g + 2) ∗ Past c l (g + 2) ∗ Out c l (g + 3) ∗ Got m c l (g + 1) ∗ Snt c l (g + 1) ∗ Snt c l (g + 2))) -∗ WP c k Q)
      -∗ WP c (waitR l (g + 1) <| waitS l g <| fwd c l (g + 2) k) Q)
  rw [In_step c l (a := g + 1) (by omega), Out_step c l (a := g + 2) (by omega), Past_step c l (g + 1), Got_step m c l g]
  iintro ⟨#He, ⟨⟨Hi, Hin⟩, Hpast, ⟨Ho1, Hout⟩, Hgot, Hs, Hs'⟩, HO⟩ Hk
  iapply (wp_waitR m c l (h := g + 1) (by omega) hA) $$ [Hi HO]
  · isplitr; · iexact He
    isplitl [Hi] <;> iassumption
  iintro ⟨HO, Hat, Hsrc⟩
  iapply (wp_waitS m c l (h := g) (by omega) (hA.mono (by omega))) $$ [Hs HO]
  · isplitr; · iexact He
    isplitl [Hs]; · iexact Hs
    iexact HO
  iintro ⟨HO, Hp, Hback⟩
  iapply (wp_fwd m c l (h := g + 2) (by omega) hh hO) $$ [Hsrc Hp Ho1 HO]
  · isplitr; · iexact He
    isplitl [Hsrc]; · iexact Hsrc
    isplitl [Hp]; · iexact Hp
    isplitl [Ho1] <;> iassumption
  iintro ⟨HO, Hs⟩
  iapply Hk
  isplitl [HO]; · iexact HO
  isplitl [Hin]; · iexact Hin
  isplitl [Hat Hpast]; · isplitl [Hat] <;> iassumption
  isplitl [Hout]; · iexact Hout
  isplitl [Hback Hgot]; · isplitl [Hback] <;> iassumption
  isplitl [Hs'] <;> iassumption

/-- The last landing. -/
theorem wp_end1 {a : ℕ} (ha : len l = a + 1) {O : CellTallies nD τ sig Unit} (hA : Above (len l + 2) O) {k : PP F} {Q : PUnit → sProp 𝕄} :
    iprop(env m ∗ St m c l (len l) ∗ ow c O) ⊢ iprop(((ow c O ∗ End1 m c l) -∗ WP c k Q) -∗ WP c (waitR l a k) Q) := by
  have hl := len_ge l
  unfold St End1
  have e1 : len l - 1 = a := by omega
  have e2 : (In c l a : sProp 𝕄) = iprop(In1 c l a ∗ In c l (a + 1)) := In_step c l (by omega)
  have e3 : (Past c l (len l) : sProp 𝕄) = iprop(atPos ER (rC c l a) 1 ∅ 0 ∗ Past c l a) := by rw [ha, Past_step]
  have e4 : srcPts m c l (len l) = srcPts m c l (a + 1) := by rw [ha]
  rw [e1, e2, e3, e4]
  iintro ⟨#He, ⟨⟨Hi, -⟩, Hpast, -, Hgot, Hs, Hs'⟩, HO⟩ Hk
  iapply (wp_waitR m c l (h := a) (by omega) (hA.mono (by omega))) $$ [Hi HO]
  · isplitr; · iexact He
    isplitl [Hi] <;> iassumption
  iintro ⟨HO, Hat, Hsrc⟩
  iapply Hk
  isplitl [HO]; · iexact HO
  isplitl [Hat Hpast]; · isplitl [Hat] <;> iassumption
  isplitl [Hgot]; · iexact Hgot
  isplitl [Hs]; · iexact Hs
  isplitl [Hs'] <;> iassumption

theorem wp_end2 {a : ℕ} (ha : len l = a + 2) {O : CellTallies nD τ sig Unit} (hA : Above 1 O) {k : PP F} {Q : PUnit → sProp 𝕄} :
    iprop(env m ∗ End1 m c l ∗ ow c O) ⊢ iprop(((ow c O ∗ End2 m c l) -∗ WP c k Q) -∗ WP c (waitS l a k) Q) := by
  unfold End1 End2
  have e1 : len l - 2 = a := by omega
  have e2 : len l - 1 = a + 1 := by omega
  have e3 : (Pos c l (len l) : sProp 𝕄) = Pos c l (a + 2) := by rw [ha]
  rw [e1, e2, e3, Got_step]
  iintro ⟨#He, ⟨Hpast, Hgot, Hs, Hs', Hsrc⟩, HO⟩ Hk
  iapply (wp_waitS m c l (h := a) (by omega) hA) $$ [Hs HO]
  · isplitr; · iexact He
    isplitl [Hs]; · iexact Hs
    iexact HO
  iintro ⟨HO, Hp, Hback⟩
  iapply Hk
  isplitl [HO]; · iexact HO
  isplitl [Hpast]; · iexact Hpast
  isplitl [Hback Hgot]; · isplitl [Hback] <;> iassumption
  isplitl [Hp]; · iexact Hp
  isplitl [Hs'] <;> iassumption

theorem wp_end {a : ℕ} (ha : len l = a + 1) {O : CellTallies nD τ sig Unit} (hA : Above 1 O) {k : PP F} {Q : PUnit → sProp 𝕄} :
    iprop(env m ∗ End2 m c l ∗ ow c O) ⊢ iprop(((ow c O ∗ End m c l) -∗ WP c k Q) -∗ WP c (waitS l a k) Q) := by
  unfold End2 End
  have e2 : len l - 1 = a := by omega
  have e3 : (Pos c l (len l + 1) : sProp 𝕄) = Pos c l (a + 2) := by rw [ha]
  have e4 : Got m c l (len l + 1) = iprop(srcPts m c l (len l) ∗ srcPts m c l a ∗ Got m c l a) := by
    rw [Got_step]; conv_lhs => rw [ha, Got_step]
    rw [ha]
  rw [e2, e3, e4]
  iintro ⟨#He, ⟨Hpast, Hgot, Hp, Hs, Hsrc⟩, HO⟩ Hk
  iapply (wp_waitS m c l (h := a) (by omega) hA) $$ [Hs HO]
  · isplitr; · iexact He
    isplitl [Hs]; · iexact Hs
    iexact HO
  iintro ⟨HO, Hp', Hback⟩
  iapply Hk
  isplitl [HO]; · iexact HO
  isplitl [Hpast]; · iexact Hpast
  isplitl [Hsrc Hback Hgot]
  · isplitl [Hsrc]; · iexact Hsrc
    isplitl [Hback] <;> iassumption
  isplitl [Hp] <;> iassumption

/-! ## The four lanes -/

theorem tot_FF {a b e f : ℕ} (ha : a < 8) : tot c a b e f = tot c (a + 1) b e f + tallyAt (rC (tgt false c) (false, false) a) () N := by
  unfold tot; rw [owe_step c (false, false) (a := a) ha]; abel
theorem tot_TF {a b e f : ℕ} (hb : b < 7) : tot c a b e f = tot c a (b + 1) e f + tallyAt (rC (tgt true c) (true, false) b) () N := by
  unfold tot; rw [owe_step c (true, false) (a := b) hb]; abel
theorem tot_FT {a b e f : ℕ} (he : e < 7) : tot c a b e f = tot c a b (e + 1) f + tallyAt (rC (tgt false c) (false, true) e) () N := by
  unfold tot; rw [owe_step c (false, true) (a := e) he]; abel
theorem tot_TT {a b e f : ℕ} (hf : f < 8) : tot c a b e f = tot c a b e (f + 1) + tallyAt (rC (tgt true c) (true, true) f) () N := by
  unfold tot; rw [owe_step c (true, true) (a := f) hf]; abel
theorem tot_end : tot c 8 7 7 8 = 0 := by
  unfold tot
  rw [owe_end c (false, false) (a := 8) (by decide), owe_end c (true, false) (a := 7) (by decide), owe_end c (false, true) (a := 7) (by decide),
    owe_end c (true, true) (a := 8) (by decide)]
  abel

/-- The four lanes before hop `h`. -/
def Sts (h : ℕ) : sProp 𝕄 :=
  iprop(St m c (false, false) h ∗ St m c (true, false) h ∗ St m c (false, true) h ∗ St m c (true, true) h)

theorem wp_step {h : ℕ} (h2 : 2 ≤ h) (h7 : h < 7) {k : PP F} {Q : PUnit → sProp 𝕄} :
    iprop(env m ∗ Sts m c h ∗ ow c (tot c h h h h))
      ⊢ iprop(((ow c (tot c (h + 1) (h + 1) (h + 1) (h + 1)) ∗ Sts m c (h + 1)) -∗ WP c k Q) -∗ WP c (step c h k) Q) := by
  unfold Sts step
  iintro ⟨#He, ⟨H1, H2, H3, H4⟩, HO⟩ Hk
  iapply (wp_grp m c (false, false) (O := tot c h h h h) h2 (show h < 8 by omega) (tot_above c (n := h) (by omega) (by omega) (by omega) (by omega)) (tot_FF c (by omega))) $$ [H1 HO]
  · isplitr; · iexact He
    isplitl [H1]; · iexact H1
    iexact HO
  iintro ⟨HO, H1⟩
  iapply (wp_grp m c (true, false) (O := tot c (h + 1) h h h) h2 h7 (tot_above c (n := h) (by omega) (by omega) (by omega) (by omega)) (tot_TF c h7)) $$ [H2 HO]
  · isplitr; · iexact He
    isplitl [H2]; · iexact H2
    iexact HO
  iintro ⟨HO, H2⟩
  iapply (wp_grp m c (false, true) (O := tot c (h + 1) (h + 1) h h) h2 h7 (tot_above c (n := h) (by omega) (by omega) (by omega) (by omega)) (tot_FT c h7)) $$ [H3 HO]
  · isplitr; · iexact He
    isplitl [H3]; · iexact H3
    iexact HO
  iintro ⟨HO, H3⟩
  iapply (wp_grp m c (true, true) (O := tot c (h + 1) (h + 1) (h + 1) h) h2 (show h < 8 by omega) (tot_above c (n := h) (by omega) (by omega) (by omega) (by omega)) (tot_TT c (by omega))) $$ [H4 HO]
  · isplitr; · iexact He
    isplitl [H4]; · iexact H4
    iexact HO
  iintro ⟨HO, H4⟩
  iapply Hk
  isplitl [HO]; · iexact HO
  isplitl [H1]; · iexact H1
  isplitl [H2]; · iexact H2
  isplitl [H3] <;> iassumption

/-- What the four lanes and the own copy leave. -/
def Ends : sProp 𝕄 :=
  iprop(End m c (false, false) ∗ End m c (true, false) ∗ End m c (false, true) ∗ End m c (true, true))

theorem wp_tail {Q : PUnit → sProp 𝕄} :
    iprop(env m ∗ Sts m c 7 ∗ ow c (tot c 7 7 7 7) ∗ cred (tallyAt (oC c) () NO) ∗ atPos ER (oC c) 0 ∅ 0)
      ⊢ iprop(((ow c 0 ∗ Ends m c ∗ atPos ER (oC c) 1 ∅ 0 ∗ ownPay m c) -∗ WP c (.ret ⟨⟩) Q) -∗ WP c (tailProg c) Q) := by
  unfold Sts tailProg Ends
  iintro ⟨#He, ⟨H1, H2, H3, H4⟩, HO, Hc, Hat⟩ Hk
  iapply (wp_grp m c (false, false) (O := tot c 7 7 7 7) (h := 7) (by decide) (by decide) (tot_above c (n := 7) (by omega) (by omega) (by omega) (by omega)) (tot_FF c (by omega))) $$ [H1 HO]
  · isplitr; · iexact He
    isplitl [H1]; · iexact H1
    iexact HO
  iintro ⟨HO, H1⟩
  iapply (wp_end1 m c (true, false) (O := tot c (7 + 1) 7 7 7) (a := 6) rfl (tot_above c (n := 7) (by omega) (by omega) (by omega) (by omega))) $$ [H2 HO]
  · isplitr; · iexact He
    isplitl [H2]; · iexact H2
    iexact HO
  iintro ⟨HO, H2⟩
  iapply (wp_end1 m c (false, true) (O := tot c (7 + 1) 7 7 7) (a := 6) rfl (tot_above c (n := 7) (by omega) (by omega) (by omega) (by omega))) $$ [H3 HO]
  · isplitr; · iexact He
    isplitl [H3]; · iexact H3
    iexact HO
  iintro ⟨HO, H3⟩
  iapply (wp_grp m c (true, true) (O := tot c (7 + 1) 7 7 7) (h := 7) (by decide) (by decide) (tot_above c (n := 7) (by omega) (by omega) (by omega) (by omega)) (tot_TT c (by omega))) $$ [H4 HO]
  · isplitr; · iexact He
    isplitl [H4]; · iexact H4
    iexact HO
  iintro ⟨HO, H4⟩
  rw [show tot c (7 + 1) 7 7 (7 + 1) = 0 from tot_end c]
  iapply (wp_end1 m c (false, false) (a := 7) rfl (O := 0) (Above.zero _)) $$ [H1 HO]
  · isplitr; · iexact He
    isplitl [H1]; · iexact H1
    iexact HO
  iintro ⟨HO, H1⟩
  iapply (wp_end1 m c (true, true) (a := 7) rfl (O := 0) (Above.zero _)) $$ [H4 HO]
  · isplitr; · iexact He
    isplitl [H4]; · iexact H4
    iexact HO
  iintro ⟨HO, H4⟩
  iapply (wp_end2 m c (false, true) (a := 5) rfl (O := 0) (Above.zero _)) $$ [H3 HO]
  · isplitr; · iexact He
    isplitl [H3]; · iexact H3
    iexact HO
  iintro ⟨HO, H3⟩
  iapply (wp_end2 m c (false, false) (a := 6) rfl (O := 0) (Above.zero _)) $$ [H1 HO]
  · isplitr; · iexact He
    isplitl [H1]; · iexact H1
    iexact HO
  iintro ⟨HO, H1⟩
  iapply (wp_end m c (false, true) (a := 6) rfl (O := 0) (Above.zero _)) $$ [H3 HO]
  · isplitr; · iexact He
    isplitl [H3]; · iexact H3
    iexact HO
  iintro ⟨HO, H3⟩
  iapply (wp_end m c (false, false) (a := 7) rfl (O := 0) (Above.zero _)) $$ [H1 HO]
  · isplitr; · iexact He
    isplitl [H1]; · iexact H1
    iexact HO
  iintro ⟨HO, H1⟩
  iapply (wp_end2 m c (true, false) (a := 5) rfl (O := 0) (Above.zero _)) $$ [H2 HO]
  · isplitr; · iexact He
    isplitl [H2]; · iexact H2
    iexact HO
  iintro ⟨HO, H2⟩
  iapply (wp_end m c (true, false) (a := 6) rfl (O := 0) (Above.zero _)) $$ [H2 HO]
  · isplitr; · iexact He
    isplitl [H2]; · iexact H2
    iexact HO
  iintro ⟨HO, H2⟩
  iapply (wp_end2 m c (true, true) (a := 6) rfl (O := 0) (Above.zero _)) $$ [H4 HO]
  · isplitr; · iexact He
    isplitl [H4]; · iexact H4
    iexact HO
  iintro ⟨HO, H4⟩
  iapply (wp_end m c (true, true) (a := 7) rfl (O := 0) (Above.zero _)) $$ [H4 HO]
  · isplitr; · iexact He
    isplitl [H4]; · iexact H4
    iexact HO
  iintro ⟨HO, H4⟩
  iapply (wp_waitOwn m c (O := 0) (Above.zero _)) $$ [Hc Hat HO]
  · isplitr; · iexact He
    isplitl [Hc]; · iexact Hc
    isplitl [Hat] <;> iassumption
  iintro ⟨HO, Hat, Hp⟩
  iapply Hk
  isplitl [HO]; · iexact HO
  isplitr [Hat Hp]
  · isplitl [H1]; · iexact H1
    isplitl [H2]; · iexact H2
    isplitl [H3] <;> iassumption
  isplitl [Hat] <;> iassumption

/-- The four lanes before hop 1. -/
def Sts1 : sProp 𝕄 :=
  iprop(St1 c (false, false) ∗ St1 c (true, false) ∗ St1 c (false, true) ∗ St1 c (true, true))

theorem wp_hops {Q : PUnit → sProp 𝕄} :
    iprop(env m ∗ Sts1 c ∗ ow c (tot c 1 1 1 1) ∗ cred (tallyAt (oC c) () NO) ∗ atPos ER (oC c) 0 ∅ 0)
      ⊢ iprop(((ow c 0 ∗ Ends m c ∗ atPos ER (oC c) 1 ∅ 0 ∗ ownPay m c) -∗ WP c (.ret ⟨⟩) Q) -∗ WP c (hopsProg c) Q) := by
  unfold Sts1 hopsProg
  iintro ⟨#He, ⟨H1, H2, H3, H4⟩, HO, Hc, Hat⟩ Hk
  iapply (wp_grp1 m c (false, false) (O := tot c 1 1 1 1) (tot_above c (n := 1) (by omega) (by omega) (by omega) (by omega)) (tot_FF c (by omega))) $$ [H1 HO]
  · isplitr; · iexact He
    isplitl [H1]; · iexact H1
    iexact HO
  iintro ⟨HO, H1⟩
  iapply (wp_grp1 m c (true, false) (O := tot c (1 + 1) 1 1 1) (tot_above c (n := 1) (by omega) (by omega) (by omega) (by omega)) (tot_TF c (by omega))) $$ [H2 HO]
  · isplitr; · iexact He
    isplitl [H2]; · iexact H2
    iexact HO
  iintro ⟨HO, H2⟩
  iapply (wp_grp1 m c (false, true) (O := tot c (1 + 1) (1 + 1) 1 1) (tot_above c (n := 1) (by omega) (by omega) (by omega) (by omega)) (tot_FT c (by omega))) $$ [H3 HO]
  · isplitr; · iexact He
    isplitl [H3]; · iexact H3
    iexact HO
  iintro ⟨HO, H3⟩
  iapply (wp_grp1 m c (true, true) (O := tot c (1 + 1) (1 + 1) (1 + 1) 1) (tot_above c (n := 1) (by omega) (by omega) (by omega) (by omega)) (tot_TT c (by omega))) $$ [H4 HO]
  · isplitr; · iexact He
    isplitl [H4]; · iexact H4
    iexact HO
  iintro ⟨HO, H4⟩
  ihave Hs : Sts m c 2 $$ [H1 H2 H3 H4]
  · unfold Sts
    isplitl [H1]; · iexact H1
    isplitl [H2]; · iexact H2
    isplitl [H3] <;> iassumption
  iapply (wp_step m c (h := 2) (by decide) (by decide)) $$ [Hs HO]
  · isplitr; · iexact He
    isplitl [Hs]; · iexact Hs
    iexact HO
  iintro ⟨HO, Hs⟩
  iapply (wp_step m c (h := 3) (by decide) (by decide)) $$ [Hs HO]
  · isplitr; · iexact He
    isplitl [Hs]; · iexact Hs
    iexact HO
  iintro ⟨HO, Hs⟩
  iapply (wp_step m c (h := 4) (by decide) (by decide)) $$ [Hs HO]
  · isplitr; · iexact He
    isplitl [Hs]; · iexact Hs
    iexact HO
  iintro ⟨HO, Hs⟩
  iapply (wp_step m c (h := 5) (by decide) (by decide)) $$ [Hs HO]
  · isplitr; · iexact He
    isplitl [Hs]; · iexact Hs
    iexact HO
  iintro ⟨HO, Hs⟩
  iapply (wp_step m c (h := 6) (by decide) (by decide)) $$ [Hs HO]
  · isplitr; · iexact He
    isplitl [Hs]; · iexact Hs
    iexact HO
  iintro ⟨HO, Hs⟩
  iapply (wp_tail m c) $$ [Hs HO Hc Hat]
  · isplitr; · iexact He
    isplitl [Hs]; · iexact Hs
    isplitl [HO]; · iexact HO
    isplitl [Hc] <;> iassumption
  iexact Hk

end Cert.KernelIdeal.Ring

end
-- ==== Proof.Rows.lean ====
/-
The result's rows by lane, the shares of the computed product, and the steps on the device's own buffers.
-/
module

public import proofs.«01_k».proof.Proof.Hop
public import Idealize.ShloMosaic.Lib.Ring.Trips

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (l : Lane)

/-! ## The rows -/

/-- The half blocks that reach device `c` over lane `l`, each with contents `f`. -/
def Rows (f : (main_v1 : Ref sig .tc).ty.Contents (Elt F)) : sProp 𝕄 :=
  bigSep (Finset.range (len l)) fun h => blkPts c (org l.1 (h + 1) c) l.2 f

/-- Which half blocks those are. -/
def rowSet : Finset (Dev nD × Bool) := (Finset.range (len l)).image fun h => (org l.1 (h + 1) c, l.2)
/-- The device's own two. -/
def ownSet : Finset (Dev nD × Bool) := {(c, false), (c, true)}

theorem rowSet_inj : Set.InjOn (fun h => (org l.1 (h + 1) c, l.2)) (Finset.range (len l) : Set ℕ) := by
  have key : ∀ (c : Dev nD) (l : Lane) (h h' : Fin 8), h.val < len l → h'.val < len l → org l.1 (h.val + 1) c = org l.1 (h'.val + 1) c → h = h' := by
    decide +kernel
  intro h hh h' hh' e
  have h1 : h < len l := Finset.mem_range.mp hh
  have h2 : h' < len l := Finset.mem_range.mp hh'
  have hl := len_le l
  exact congrArg Fin.val (key c l ⟨h, by omega⟩ ⟨h', by omega⟩ h1 h2 (congrArg Prod.fst e))

theorem univ_rows : (Finset.univ : Finset (Dev nD × Bool))
    = ownSet c ∪ (rowSet c (false, false) ∪ (rowSet c (true, false) ∪ (rowSet c (false, true) ∪ rowSet c (true, true)))) := by
  revert c; decide +kernel
theorem own_disj : Disjoint (ownSet c) (rowSet c (false, false) ∪ (rowSet c (true, false) ∪ (rowSet c (false, true) ∪ rowSet c (true, true)))) := by
  revert c; decide +kernel
theorem FF_disj : Disjoint (rowSet c (false, false)) (rowSet c (true, false) ∪ (rowSet c (false, true) ∪ rowSet c (true, true))) := by
  revert c; decide +kernel
theorem TF_disj : Disjoint (rowSet c (true, false)) (rowSet c (false, true) ∪ rowSet c (true, true)) := by
  revert c; decide +kernel
theorem FT_disj : Disjoint (rowSet c (false, true)) (rowSet c (true, true)) := by
  revert c; decide +kernel

theorem rowSet_eq (f : (main_v1 : Ref sig .tc).ty.Contents (Elt F)) :
    bigSep (rowSet c l) (fun oj => blkPts c oj.1 oj.2 f) = (Rows c l f : sProp 𝕄) := by
  unfold rowSet Rows
  exact bigSep_image_of_injOn (rowSet_inj c l) _

theorem union_eq {s t : Finset (Dev nD × Bool)} (h : Disjoint s t) {Φ : Dev nD × Bool → sProp 𝕄} :
    bigSep (s ∪ t) Φ = iprop(bigSep s Φ ∗ bigSep t Φ) := bigSep_union h

/-- The result is the device's own block and the four lanes' rows. -/
theorem out_rows (f : (main_v1 : Ref sig .tc).ty.Contents (Elt F)) :
    (((c : Thread nD τ).loc main_v1) ↦{fullShare} f : sProp 𝕄)
      ⊣⊢ iprop(ownPts c f ∗ Rows c (false, false) f ∗ Rows c (true, false) f ∗ Rows c (false, true) f ∗ Rows c (true, true) f) := by
  have h : (((c : Thread nD τ).loc main_v1) ↦{fullShare} f : sProp 𝕄)
      = iprop((blkPts c c false f ∗ blkPts c c true f) ∗ Rows c (false, false) f ∗ Rows c (true, false) f ∗ Rows c (false, true) f ∗ Rows c (true, true) f) := by
    rw [out_blocks, univ_rows c, union_eq (own_disj c), union_eq (FF_disj c), union_eq (TF_disj c), union_eq (FT_disj c),
      rowSet_eq, rowSet_eq, rowSet_eq, rowSet_eq]
    congr 1
    unfold ownSet
    rw [bigSep_insert (fun h => Bool.noConfusion (congrArg Prod.snd (Finset.mem_singleton.mp h))), bigSep_singleton]
    rfl
  rw [h]
  exact ⟨sep_mono_left (ownPts_split c f).2, sep_mono_left (ownPts_split c f).1⟩

theorem barPay_eq (d : Bool) : (barPay (F := F) c d : sProp 𝕄)
    = iprop((bigSep (Finset.range (len (d, false))) fun h => dstPts (F := F) c (d, false) h) ∗ bigSep (Finset.range (len (d, true))) fun h => dstPts (F := F) c (d, true) h) := by
  unfold barPay
  rw [bigSep_univ_eq_bigSepL [false, true] (by decide) (by decide), bigSepL_cons_cons, bigSepL_singleton]
  rfl

/-- Going to the neighbour in direction `d`: the rows it will write coming back. -/
theorem barPay_intro (d : Bool) (f : (main_v1 : Ref sig .tc).ty.Contents (Elt F)) :
    iprop(Rows c (!d, false) f ∗ Rows c (!d, true) f) ⊢ (barPay (tgt d c) (!d) : sProp 𝕄) := by
  have key (j : Bool) : (Rows c (!d, j) f : sProp 𝕄) ⊢ bigSep (Finset.range (len (!d, j))) fun h => dstPts (F := F) (tgt d c) (!d, j) h := by
    unfold Rows
    refine bigSep_mono fun h hh => ?_
    have h8 : h < 8 := lt_of_lt_of_le (Finset.mem_range.mp hh) (len_le _)
    have e1 : tgt (!d) (tgt d c) = c := by have := tgt_pred (!d) c; rwa [Bool.not_not] at this
    have e2 : org (!d) h (tgt d c) = org (!d) (h + 1) c := by have := org_pred (!d) h8 c; rwa [Bool.not_not] at this
    unfold dstPts
    rw [e1, e2]
    show (blkPts c (org (!d) (h + 1) c) j f : sProp 𝕄) ⊢ iprop(∃ f, blkPts c (org (!d) (h + 1) c) j f)
    iintro H
    iexists f; iexact H
  rw [barPay_eq]
  iintro ⟨H1, H2⟩
  isplitl [H1]
  · iapply (key false); iexact H1
  · iapply (key true); iexact H2

/-- A lane's tokens. -/
def Toks : sProp 𝕄 := bigSep (Finset.range (len l)) fun h =>
  iprop(dutyTok ER (sC c l h) (h / 2) false ∗ dutyTok ER (rC (tgt l.1 c) l h) 0 false)

/-- The neighbour's rows and the tokens make a direction's two lanes ready to send. -/
theorem barPay_elim (d : Bool) : iprop(barPay (F := F) c d ∗ Toks c (d, false) ∗ Toks c (d, true)) ⊢ iprop(Out c (d, false) 0 ∗ Out c (d, true) 0) := by
  have key (l : Lane) : iprop((bigSep (Finset.range (len l)) fun h => dstPts (F := F) c l h) ∗ Toks c l) ⊢ Out c l 0 := by
    unfold Toks Out
    rw [← bigSep_sep', Finset.range_eq_Ico]
    exact bigSep_mono fun h _ => BI.Entails.refl _
  rw [barPay_eq]
  iintro ⟨⟨H1, H2⟩, T1, T2⟩
  isplitl [H1 T1]
  · iapply (key (d, false)); isplitl [H1] <;> iassumption
  · iapply (key (d, true)); isplitl [H2] <;> iassumption

theorem swap3 (P R S : sProp 𝕄) : iprop(P ∗ R ∗ S) = iprop(R ∗ P ∗ S) := by
  have h (P R S : sProp 𝕄) : iprop(P ∗ R ∗ S) ⊢ iprop(R ∗ P ∗ S) := by
    iintro ⟨H1, H2, H3⟩
    isplitl [H2]; · iexact H2
    isplitl [H1] <;> iassumption
  exact equiv_iff.mp ⟨h P R S, h R P S⟩

theorem range_bot (k : ℕ) (A : ℕ → sProp 𝕄) : bigSep (Finset.range (k + 1)) A = iprop(A 0 ∗ bigSep (Finset.range k) fun h => A (h + 1)) := by
  induction k with
  | zero => rw [bigSep_range_succ]; rfl
  | succ n ih =>
    rw [bigSep_range_succ, ih, bigSep_range_succ n fun h => A (h + 1)]
    exact swap3 _ _ _

/-- All of a lane's sources: the share of the device's own half, and the lane's rows, now the finished ones. -/
theorem Got_end : Got m c l (len l + 1) = iprop(halfPts c l.2 (shr l.1) (pC m c) ∗ Rows c l (fin m)) := by
  unfold Got Rows
  rw [range_bot, srcPts_zero]
  rw [bigSep_congr fun h _ => srcPts_succ m c l h]

/-! ## The product's shares -/

theorem half_shares (j : Bool) (f : (cc0_scratch0 : Ref sig .tc).ty.Contents (Elt F)) :
    halfPts c j fullShare f ⊣⊢ (iprop(halfPts c j (shr false) f ∗ halfPts c j (shr true) f ∗ halfPts c j shrO f) : sProp 𝕄) := by
  have e0 : shr false = Ring.shares3 fullShare 0 := rfl
  have e1 : shr true = Ring.shares3 fullShare 1 := rfl
  have e2 : shrO = Ring.shares3 fullShare 2 := rfl
  rw [e0, e1, e2]
  exact Ring.pointsTo_thirds (Ix := Unit) (Val := Elt F) (Name := ℕ) (U := UU) (Lvl := ℕ)
    (ℓ := (halfM j).view.loc (c : Thread nD τ)) (I := (halfM j).view.set) fullShare f

theorem c_shares (f : (cc0_scratch0 : Ref sig .tc).ty.Contents (Elt F)) :
    iprop((halfPts c false (shr false) f ∗ halfPts c true (shr false) f) ∗ (halfPts c false (shr true) f ∗ halfPts c true (shr true) f) ∗ cPts c shrO f)
      ⊢ (cPts c fullShare f : sProp 𝕄) := by
  iintro ⟨⟨H1, H2⟩, ⟨H3, H4⟩, Hc⟩
  ihave Hc := (cPts_split c shrO f).1 $$ Hc
  icases Hc with ⟨H5, H6⟩
  iapply (cPts_split c fullShare f).2
  isplitl [H1 H3 H5]
  · iapply (half_shares c false f).2
    isplitl [H1]; · iexact H1
    isplitl [H3] <;> iassumption
  · iapply (half_shares c true f).2
    isplitl [H2]; · iexact H2
    isplitl [H4] <;> iassumption

/-! ## The loads and stores -/

theorem zero2 : (![0, 0] : Fin 2 → ℕ) = fun _ => 0 := funext fun a => by fin_cases a <;> rfl

theorem wp_loadA {q : PosShare TreeShare} (f : (cc0_stg0_0 : Ref sig .tc).ty.Contents (Elt F)) {k : Vec F S2048x1024 .bf16 → PP F} {Q : PUnit → sProp 𝕄} :
    (((c : Thread nD τ).loc cc0_stg0_0) ↦{q} f : sProp 𝕄)
      ⊢ iprop(((((c : Thread nD τ).loc cc0_stg0_0) ↦{q} f) -∗ WP c (k f) Q) -∗ WP c (opLoadA k) Q) := by
  have h := wp_load (Γ := .empty) 𝒱₀ (c : Thread nD τ) none Set.univ (defs := defs₀ (F := F)) (m := aM)
    (r := (Rect.unit (s := S2048x1024) ![0, 0] S2048x1024.size inb_S2048x1024_S2048x1024_0_0).toLoadRect)
    (hl := View.loadsAt_vmem h_S2048x1024) (k := k) (Q := Q) (q := q) (f := f) (Finset.subset_univ _)
  have e : aM.view.readAt (Elt F) (Rect.unit (s := S2048x1024) ![0, 0] S2048x1024.size inb_S2048x1024_S2048x1024_0_0).toLoadRect f = f :=
    Memref.readAt_unit_zero (Elt F) cc0_stg0_0 zero2 _ f
  rw [e] at h
  exact h
theorem wp_loadB {q : PosShare TreeShare} (f : (cc0_stg1_0 : Ref sig .tc).ty.Contents (Elt F)) {k : Vec F S1024x2048 .bf16 → PP F} {Q : PUnit → sProp 𝕄} :
    (((c : Thread nD τ).loc cc0_stg1_0) ↦{q} f : sProp 𝕄)
      ⊢ iprop(((((c : Thread nD τ).loc cc0_stg1_0) ↦{q} f) -∗ WP c (k f) Q) -∗ WP c (opLoadB k) Q) := by
  have h := wp_load (Γ := .empty) 𝒱₀ (c : Thread nD τ) none Set.univ (defs := defs₀ (F := F)) (m := bM)
    (r := (Rect.unit (s := S1024x2048) ![0, 0] S1024x2048.size inb_S1024x2048_S1024x2048_0_0).toLoadRect)
    (hl := View.loadsAt_vmem h_S1024x2048) (k := k) (Q := Q) (q := q) (f := f) (Finset.subset_univ _)
  have e : bM.view.readAt (Elt F) (Rect.unit (s := S1024x2048) ![0, 0] S1024x2048.size inb_S1024x2048_S1024x2048_0_0).toLoadRect f = f :=
    Memref.readAt_unit_zero (Elt F) cc0_stg1_0 zero2 _ f
  rw [e] at h
  exact h

theorem rectC_load (j : Bool) : (cM : Memref sig .tc .vmem S2048x2048 .bf16).view.setOn (rectC j).toLoadRect.set ⊆ (halfM j).view.set := by
  exact (View.set_slice _ _).symm.subset

/-- Half `j` read before it is written, then written with the product. -/
theorem wp_storeHalf (j : Bool) (f : (cc0_scratch0 : Ref sig .tc).ty.Contents (Elt F)) {k : PP F} {Q : PUnit → sProp 𝕄} :
    (halfPts c j fullShare f : sProp 𝕄)
      ⊢ iprop((halfPts c j fullShare (pC m c) -∗ WP c k Q) -∗ WP c (opLoadC j <| opStoreC j (payC j (aOf m c) (bOf m c)) k) Q) := by
  rw [← store_half m c j f]
  generalize payC j (aOf m c) (bOf m c) = w
  unfold halfPts opLoadC opStoreC
  iintro H Hk
  iapply (wp_load 𝒱₀ (c : Thread nD τ) none Set.univ (m := cM) (rectC_load j)) $$ H; iintro H
  iapply (wp_store 𝒱₀ (c : Thread nD τ) none Set.univ (m := cM) (r := rectC j) (Mk := Finset.univ) (View.setOn_univ _).subset) $$ H; iintro H
  iapply Hk
  iexact H

end Cert.KernelIdeal.Ring

end
-- ==== Proof.Close.lean ====
/-
A device's cells listed, and closed after the last wait.
-/
module

public import proofs.«01_k».proof.Proof.Lane
public import Idealize.SL.BI.BigOpNat

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (l : Lane)

/-- Which of the device's cells are lane `l`'s: the two it counts reading on, and the eight it counts landing on. -/
def kS (l : Lane) (p : ℕ) : Fin 42 := Fin.ofNat 42 ((if l.1 then 21 else 1) + 2 * p + (if l.2 then 1 else 0))
def kR (l : Lane) (h : ℕ) : Fin 42 := Fin.ofNat 42 ((if l.1 then 25 else 5) + 2 * h + (if l.2 then 1 else 0))
def laneK (l : Lane) : Finset (Fin 42) := {kS l 0} ∪ ({kS l 1} ∪ (Finset.range 8).image (kR l))

theorem csem_kS (l : Lane) (p : Fin 2) : csem (kS l p.val) = .dma (sSem l p.val) := by revert l p; decide +kernel
theorem csem_kR (l : Lane) (h : Fin 8) : csem (kR l h.val) = .dma (rSem l h.val) := by revert l h; decide +kernel
theorem kR_inj (l : Lane) (h h' : Fin 8) : kR l h.val = kR l h'.val → h = h' := by revert l h h'; decide +kernel
theorem univ_cells : (Finset.univ : Finset (Fin 42)) = {0} ∪ ({41} ∪ (laneK (false, false) ∪ (laneK (true, false) ∪ (laneK (false, true) ∪ laneK (true, true))))) := by
  decide +kernel
theorem disj0 : Disjoint ({0} : Finset (Fin 42)) ({41} ∪ (laneK (false, false) ∪ (laneK (true, false) ∪ (laneK (false, true) ∪ laneK (true, true))))) := by decide +kernel
theorem disj1 : Disjoint ({41} : Finset (Fin 42)) (laneK (false, false) ∪ (laneK (true, false) ∪ (laneK (false, true) ∪ laneK (true, true)))) := by decide +kernel
theorem disj2 : Disjoint (laneK (false, false)) (laneK (true, false) ∪ (laneK (false, true) ∪ laneK (true, true))) := by decide +kernel
theorem disj3 : Disjoint (laneK (true, false)) (laneK (false, true) ∪ laneK (true, true)) := by decide +kernel
theorem disj4 : Disjoint (laneK (false, true)) (laneK (true, true)) := by decide +kernel
theorem disjS (l : Lane) : Disjoint ({kS l 0} : Finset (Fin 42)) ({kS l 1} ∪ (Finset.range 8).image (kR l)) := by revert l; decide +kernel
theorem disjR (l : Lane) : Disjoint ({kS l 1} : Finset (Fin 42)) ((Finset.range 8).image (kR l)) := by revert l; decide +kernel

/-- `Φ` of a lane's ten cells. -/
def LaneC (Φ : GSem nD τ sig → sProp 𝕄) : sProp 𝕄 :=
  iprop(Φ (sC c l 0) ∗ Φ (sC c l 1) ∗ bigSep (Finset.range 8) fun h => Φ (rC c l h))

theorem cells_union {s t : Finset (Fin 42)} (h : Disjoint s t) {Φ : Fin 42 → sProp 𝕄} :
    bigSep (s ∪ t) Φ = iprop(bigSep s Φ ∗ bigSep t Φ) := bigSep_union h

theorem lane_cells (Φ : GSem nD τ sig → sProp 𝕄) : bigSep (laneK l) (fun k => Φ (kcell (c, k))) = LaneC c l Φ := by
  have inj : Set.InjOn (kR l) (Finset.range 8 : Set ℕ) := fun h hh h' hh' e =>
    congrArg Fin.val (kR_inj l ⟨h, Finset.mem_range.mp hh⟩ ⟨h', Finset.mem_range.mp hh'⟩ e)
  have e0 : kcell (c, kS l 0) = sC c l 0 := congrArg (Prod.mk (c : Thread nD τ)) (csem_kS l 0)
  have e1 : kcell (c, kS l 1) = sC c l 1 := congrArg (Prod.mk (c : Thread nD τ)) (csem_kS l 1)
  have e2 : ∀ h ∈ Finset.range 8, Φ (kcell (c, kR l h)) = Φ (rC c l h) := fun h hh =>
    congrArg Φ (congrArg (Prod.mk (c : Thread nD τ)) (csem_kR l ⟨h, Finset.mem_range.mp hh⟩))
  unfold laneK LaneC
  rw [cells_union (disjS l), cells_union (disjR l), bigSep_singleton, bigSep_singleton, bigSep_image_of_injOn inj, e0, e1,
    bigSep_congr e2]

/-- A device's forty-two cells: the barrier, its own copy's, and four lanes of ten. -/
theorem all_cells (Φ : GSem nD τ sig → sProp 𝕄) : (bigSep Finset.univ fun k : Fin 42 => Φ (kcell (c, k)))
    = iprop(Φ (barC c) ∗ Φ (oC c) ∗ LaneC c (false, false) Φ ∗ LaneC c (true, false) Φ ∗ LaneC c (false, true) Φ ∗ LaneC c (true, true) Φ) := by
  have e1 : kcell (c, 41) = oC c := congrArg (Prod.mk (c : Thread nD τ)) csem_own
  rw [univ_cells, cells_union disj0, cells_union disj1, cells_union disj2, cells_union disj3, cells_union disj4, bigSep_singleton, bigSep_singleton,
    lane_cells, lane_cells, lane_cells, lane_cells, e1]
  rfl

/-! ## Closing -/

theorem close_one {g : GSem nD τ sig} {R : ℕ} (hd : ∀ r, R ≤ r → (ringRd m).duties g r = ∅) :
    iprop(cellRec m g ∗ atPos ER g R ∅ 0) ⊢ (iprop(|={Set.univ}=> semVal g 0) : sProp 𝕄) := by
  unfold cellRec
  iintro ⟨⟨%κ, #HI, -⟩, Hat⟩
  iapply (Rounds.cell_close ER (ringRd m) (Set.mem_univ κ) (fun h => h) (R := R) hd)
  isplitr; · iexact HI
  iexact Hat

/-- The landing cells a lane never uses. -/
def Un : sProp 𝕄 := bigSep (Finset.Ico (len l) 8) fun h => atPos ER (rC c l h) 0 ∅ 0

theorem range_len (A : ℕ → sProp 𝕄) : bigSep (Finset.range 8) A = iprop(bigSep (Finset.range (len l)) A ∗ bigSep (Finset.Ico (len l) 8) A) := by
  rw [Finset.range_eq_Ico, Finset.range_eq_Ico, ← Finset.Ico_union_Ico_eq_Ico (Nat.zero_le (len l)) (len_le l)]
  exact bigSep_union (Finset.Ico_disjoint_Ico_consecutive 0 (len l) 8)

theorem close_recv : iprop(records m ∗ Past c l (len l) ∗ Un c l) ⊢ (iprop(|={Set.univ}=> bigSep (Finset.range 8) fun h => semVal (rC c l h) 0) : sProp 𝕄) := by
  have h1 : iprop(records m ∗ Past c l (len l)) ⊢ (iprop(|={Set.univ}=> bigSep (Finset.range (len l)) fun h => semVal (rC c l h) 0) : sProp 𝕄) := by
    unfold Past
    refine (bigSep_with_persistent (Ψ := fun h => iprop(|={Set.univ}=> semVal (rC c l h) 0)) fun h hh => ?_).trans (bigSep_fupd _ _)
    have h8 : h < 8 := lt_of_lt_of_le (Finset.mem_range.mp hh) (len_le _)
    exact (sep_mono_left (records_rcv m c l h8)).trans (close_one m (later_rcv m c l h8))
  have h2 : iprop(records m ∗ Un c l) ⊢ (iprop(|={Set.univ}=> bigSep (Finset.Ico (len l) 8) fun h => semVal (rC c l h) 0) : sProp 𝕄) := by
    unfold Un
    refine (bigSep_with_persistent (Ψ := fun h => iprop(|={Set.univ}=> semVal (rC c l h) 0)) fun h hh => ?_).trans (bigSep_fupd _ _)
    have h8 : h < 8 := (Finset.mem_Ico.mp hh).2
    exact (sep_mono_left (records_rcv m c l h8)).trans (close_one m (unused_rcv m c l h8 (Finset.mem_Ico.mp hh).1))
  rw [range_len l]
  iintro ⟨#Hr, H1, H2⟩
  imod h1 $$ [H1] with H1
  · isplitr; · iexact Hr
    iexact H1
  imod h2 $$ [H2] with H2
  · isplitr; · iexact Hr
    iexact H2
  imodintro
  isplitl [H1] <;> iassumption

theorem close_send {a : ℕ} (ha : len l ≤ a + 2) : iprop(records m ∗ Pos c l (a + 2)) ⊢ (iprop(|={Set.univ}=> semVal (sC c l a) 0) : sProp 𝕄) := by
  have h := close_one m (g := sC c l a) (later_snd m c l ha)
  unfold Pos
  have e : (a + 2) / 2 = a / 2 + 1 := by omega
  rw [sC_add_two, e]
  iintro ⟨#Hr, H, -⟩
  iapply h
  isplitr; · iapply (records_snd m c l a); iexact Hr
  iexact H

/-- A lane's cells close. -/
theorem close_lane : iprop(records m ∗ (Past c l (len l) ∗ Un c l) ∗ Pos c l (len l) ∗ Pos c l (len l + 1))
    ⊢ (iprop(|={Set.univ}=> LaneC c l fun g => semVal g 0) : sProp 𝕄) := by
  obtain ⟨a, ha⟩ : ∃ a, len l = a + 2 := ⟨len l - 2, by have := len_ge l; omega⟩
  have hp : (∀ Φ : GSem nD τ sig → sProp 𝕄, iprop(Φ (sC c l a) ∗ Φ (sC c l (a + 1))) ⊢ iprop(Φ (sC c l 0) ∗ Φ (sC c l 1))) := by
    intro Φ
    have hm : a = 6 ∨ a = 5 := by have := len_le l; have := len_ge l; omega
    rcases hm with rfl | rfl
    · exact BI.Entails.refl _
    · have e0 : sC c l 5 = sC c l 1 := rfl
      have e1 : sC c l (5 + 1) = sC c l 0 := rfl
      rw [e0, e1]
      iintro ⟨H1, H2⟩
      isplitl [H2] <;> iassumption
  have e0 : (Pos c l (len l) : sProp 𝕄) = Pos c l (a + 2) := by rw [ha]
  have e1 : (Pos c l (len l + 1) : sProp 𝕄) = Pos c l (a + 1 + 2) := by rw [ha]
  rw [e0, e1]
  unfold LaneC
  iintro ⟨#Hr, Hpast, H1, H2⟩
  imod (close_recv m c l) $$ [Hpast] with Hv
  · isplitr; · iexact Hr
    iexact Hpast
  imod (close_send m c l (a := a) (by omega)) $$ [H1] with H1
  · isplitr; · iexact Hr
    iexact H1
  imod (close_send m c l (a := a + 1) (by omega)) $$ [H2] with H2
  · isplitr; · iexact Hr
    iexact H2
  imodintro
  ihave H := (hp fun g => semVal g 0) $$ [H1 H2]
  · isplitl [H1] <;> iassumption
  icases H with ⟨H1, H2⟩
  isplitl [H1]; · iexact H1
  isplitl [H2] <;> iassumption

end Cert.KernelIdeal.Ring

end
-- ==== Proof.Body.lean ====
/-
A device's whole run: from its ghost state, its buffers and what it owes, to the finished result and its cells at zero.
-/
module

public import proofs.«01_k».proof.Proof.Rows
public import proofs.«01_k».proof.Proof.Close

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (l : Lane)

/-- What a lane starts from. -/
def Lin : sProp 𝕄 :=
  iprop(In c l 0 ∗ Un c l ∗ Toks c l ∗ atPos ER (sC c l 0) 0 ∅ 0 ∗ atPos ER (sC c l 1) 0 ∅ 0)

/-- What a device starts from. -/
def start : sProp 𝕄 :=
  iprop(env m ∗ (Lin c (false, false) ∗ Lin c (true, false) ∗ Lin c (false, true) ∗ Lin c (true, true))
    ∗ cred (tallyAt (barC c) () 2) ∗ atPos ER (barC c) 0 ∅ 0 ∗ atPos ER (oC c) 0 ∅ 0 ∗ dutyTok ER (oC c) 0 false
    ∗ dutyTok ER (barC (tgt true c)) 0 false ∗ dutyTok ER (barC (tgt false c)) 0 true)

/-- A lane's first send, from the half it sends. -/
theorem wp_first {O O' : CellTallies nD τ sig Unit} (hO : O = O' + tallyAt (rC (tgt l.1 c) l 0) () N) {k : PP F} {Q : PUnit → sProp 𝕄} :
    iprop(env m ∗ halfPts c l.2 (shr l.1) (pC m c) ∗ (Out c l 0 ∗ In c l 0 ∗ atPos ER (sC c l 0) 0 ∅ 0 ∗ atPos ER (sC c l 1) 0 ∅ 0) ∗ ow c O)
      ⊢ iprop(((ow c O' ∗ St1 c l) -∗ WP c k Q) -∗ WP c (send0 c l k) Q) := by
  have hl := len_ge l
  unfold St1 Pos
  rw [Out_step c l (a := 0) (by omega)]
  iintro ⟨#He, Hh, ⟨⟨Ho1, Hout⟩, Hin, Hs0, Hs1⟩, HO⟩ Hk
  iapply (wp_send0 m c l hO) $$ [Hh Hs0 Ho1 HO]
  · isplitr; · iexact He
    isplitl [Hh]; · iexact Hh
    isplitl [Hs0]; · iexact Hs0
    isplitl [Ho1] <;> iassumption
  iintro ⟨HO, Hs⟩
  iapply Hk
  isplitl [HO]; · iexact HO
  isplitl [Hin]; · iexact Hin
  isplitl [Hout]; · iexact Hout
  isplitl [Hs]; · iexact Hs
  isplitl [Hs1]; · iexact Hs1
  unfold env
  icases He with ⟨#Hrec, -⟩
  ihave Hc := (records_snd m c l 1) $$ Hrec
  unfold cellRec
  icases Hc with ⟨%κ, -, #Hr⟩
  iexact Hr

/-- The end of the run: the pieces put together and the cells closed. -/
theorem finish :
    iprop(env m ∗ Ends m c ∗ (Un c (false, false) ∗ Un c (true, false) ∗ Un c (false, true) ∗ Un c (true, true))
        ∗ atPos ER (oC c) 1 ∅ 0 ∗ atPos ER (barC c) 1 ∅ 0 ∗ ownPay m c)
      ⊢ (iprop(|={Set.univ}=> ((((c : Thread nD τ).loc main_v1) ↦{fullShare} fin m) ∗ (((c : Thread nD τ).loc cc0_scratch0) ↦{fullShare} pC m c)
          ∗ bigSep Finset.univ fun k : Fin 42 => semVal (kcell (c, k)) 0)) : sProp 𝕄) := by
  unfold env Ends End ownPay
  rw [Got_end, Got_end, Got_end, Got_end]
  iintro ⟨⟨#Hr, -⟩, ⟨⟨P1, ⟨A1, R1⟩, S1, T1⟩, ⟨P2, ⟨A2, R2⟩, S2, T2⟩, ⟨P3, ⟨A3, R3⟩, S3, T3⟩, ⟨P4, ⟨A4, R4⟩, S4, T4⟩⟩, ⟨U1, U2, U3, U4⟩, Ho, Hb, ⟨Hown, Hc⟩⟩
  imod (close_lane m c (false, false)) $$ [P1 U1 S1 T1] with Z1
  · isplitr; · iexact Hr
    isplitl [P1 U1]; · isplitl [P1] <;> iassumption
    isplitl [S1] <;> iassumption
  imod (close_lane m c (true, false)) $$ [P2 U2 S2 T2] with Z2
  · isplitr; · iexact Hr
    isplitl [P2 U2]; · isplitl [P2] <;> iassumption
    isplitl [S2] <;> iassumption
  imod (close_lane m c (false, true)) $$ [P3 U3 S3 T3] with Z3
  · isplitr; · iexact Hr
    isplitl [P3 U3]; · isplitl [P3] <;> iassumption
    isplitl [S3] <;> iassumption
  imod (close_lane m c (true, true)) $$ [P4 U4 S4 T4] with Z4
  · isplitr; · iexact Hr
    isplitl [P4 U4]; · isplitl [P4] <;> iassumption
    isplitl [S4] <;> iassumption
  imod (close_one m (later_own m c)) $$ [Ho] with Zo
  · isplitr; · iapply (records_own m c); iexact Hr
    iexact Ho
  imod (close_one m (later_bar m c)) $$ [Hb] with Zb
  · isplitr; · iapply (records_bar m c); iexact Hr
    iexact Hb
  imodintro
  isplitl [Hown R1 R2 R3 R4]
  · iapply (out_rows c (fin m)).2
    isplitl [Hown]; · iexact Hown
    isplitl [R1]; · iexact R1
    isplitl [R2]; · iexact R2
    isplitl [R3] <;> iassumption
  isplitl [A1 A2 A3 A4 Hc]
  · rw [← cPts_eq]
    iapply (c_shares c (pC m c))
    isplitl [A1 A3]; · isplitl [A1] <;> iassumption
    isplitl [A2 A4]; · isplitl [A2] <;> iassumption
    iexact Hc
  rw [all_cells c fun g => semVal g 0]
  isplitl [Zb]; · iexact Zb
  isplitl [Zo]; · iexact Zo
  isplitl [Z1]; · iexact Z1
  isplitl [Z2]; · iexact Z2
  isplitl [Z3] <;> iassumption

/-- What a device ends with. -/
def done : sProp 𝕄 :=
  iprop(ow c 0 ∗ (((c : Thread nD τ).loc main_v1) ↦{fullShare} fin m) ∗ (((c : Thread nD τ).loc cc0_scratch0) ↦{fullShare} pC m c)
    ∗ (((c : Thread nD τ).loc cc0_stg0_0) ↦{fullShare} aOf m c) ∗ (((c : Thread nD τ).loc cc0_stg1_0) ↦{fullShare} bOf m c)
    ∗ bigSep Finset.univ fun k : Fin 42 => semVal (kcell (c, k)) 0)

theorem wp_main (f : (main_v1 : Ref sig .tc).ty.Contents (Elt F)) (g : (cc0_scratch0 : Ref sig .tc).ty.Contents (Elt F)) {Q : PUnit → sProp 𝕄} :
    iprop(start m c ∗ (((c : Thread nD τ).loc main_v1) ↦{fullShare} f) ∗ (((c : Thread nD τ).loc cc0_scratch0) ↦{fullShare} g)
        ∗ (((c : Thread nD τ).loc cc0_stg0_0) ↦{fullShare} aOf m c) ∗ (((c : Thread nD τ).loc cc0_stg1_0) ↦{fullShare} bOf m c) ∗ ow c (O₀ c))
      ⊢ iprop((done m c -∗ Q ⟨⟩) -∗ WP c (mainProg c) Q) := by
  unfold start Lin mainProg O₀
  iintro ⟨⟨#He, ⟨⟨I1, U1, T1, X1, Y1⟩, ⟨I2, U2, T2, X2, Y2⟩, ⟨I3, U3, T3, X3, Y3⟩, ⟨I4, U4, T4, X4, Y4⟩⟩, Hcb, Hab, Hao, Hto, HtT, HtF⟩, Hout, Hc, Ha, Hb, HO⟩ Hk
  ihave Hout := (out_rows c f).1 $$ Hout
  icases Hout with ⟨Hown, R1, R2, R3, R4⟩
  ihave Hc := (Entails.of_eq (cPts_eq c fullShare g).symm) $$ Hc
  ihave Hc := (cPts_split c fullShare g).1 $$ Hc
  icases Hc with ⟨HcF, HcT⟩
  iapply (wp_signal m c true rfl) $$ [HtT R1 R3 HO]
  · isplitr; · iexact He
    isplitl [HtT]; · iexact HtT
    isplitl [R1 R3]
    · iapply (barPay_intro c true f)
      isplitl [R1]; · iexact R1
      iexact R3
    iexact HO
  iintro HO
  iapply (wp_signal m c false rfl) $$ [HtF R2 R4 HO]
  · isplitr; · iexact He
    isplitl [HtF]; · iexact HtF
    isplitl [R2 R4]
    · iapply (barPay_intro c false f)
      isplitl [R2]; · iexact R2
      iexact R4
    iexact HO
  iintro HO
  iapply (wp_loadA c (aOf m c)) $$ Ha; iintro Ha
  iapply (wp_loadB c (bOf m c)) $$ Hb; iintro Hb
  iapply (wp_storeHalf m c false g) $$ HcF; iintro HcF
  iapply (wp_barrier m c (O := tot c 0 0 0 0) (tot_above c (n := 0) (by omega) (by omega) (by omega) (by omega))) $$ [Hcb Hab HO]
  · isplitr; · iexact He
    isplitl [Hcb]; · iexact Hcb
    isplitl [Hab] <;> iassumption
  iintro ⟨HO, Hab, HpF, HpT⟩
  ihave HF := (barPay_elim c false) $$ [HpF T1 T3]
  · isplitl [HpF]; · iexact HpF
    isplitl [T1] <;> iassumption
  icases HF with ⟨O1, O3⟩
  ihave HT := (barPay_elim c true) $$ [HpT T2 T4]
  · isplitl [HpT]; · iexact HpT
    isplitl [T2] <;> iassumption
  icases HT with ⟨O2, O4⟩
  ihave HcF := (half_shares c false (pC m c)).1 $$ HcF
  icases HcF with ⟨A1, A2, A5⟩
  iapply (wp_first m c (false, false) (O := tot c 0 0 0 0) (tot_FF c (by omega))) $$ [A1 O1 I1 X1 Y1 HO]
  · isplitr; · iexact He
    isplitl [A1]; · iexact A1
    isplitl [O1 I1 X1 Y1]
    · isplitl [O1]; · iexact O1
      isplitl [I1]; · iexact I1
      isplitl [X1] <;> iassumption
    iexact HO
  iintro ⟨HO, L1⟩
  iapply (wp_first m c (true, false) (O := tot c (0 + 1) 0 0 0) (tot_TF c (by omega))) $$ [A2 O2 I2 X2 Y2 HO]
  · isplitr; · iexact He
    isplitl [A2]; · iexact A2
    isplitl [O2 I2 X2 Y2]
    · isplitl [O2]; · iexact O2
      isplitl [I2]; · iexact I2
      isplitl [X2] <;> iassumption
    iexact HO
  iintro ⟨HO, L2⟩
  iapply (wp_storeHalf m c true g) $$ HcT; iintro HcT
  ihave HcT := (half_shares c true (pC m c)).1 $$ HcT
  icases HcT with ⟨A3, A4, A6⟩
  iapply (wp_first m c (false, true) (O := tot c (0 + 1) (0 + 1) 0 0) (tot_FT c (by omega))) $$ [A3 O3 I3 X3 Y3 HO]
  · isplitr; · iexact He
    isplitl [A3]; · iexact A3
    isplitl [O3 I3 X3 Y3]
    · isplitl [O3]; · iexact O3
      isplitl [I3]; · iexact I3
      isplitl [X3] <;> iassumption
    iexact HO
  iintro ⟨HO, L3⟩
  iapply (wp_first m c (true, true) (O := tot c (0 + 1) (0 + 1) (0 + 1) 0) (tot_TT c (by omega))) $$ [A4 O4 I4 X4 Y4 HO]
  · isplitr; · iexact He
    isplitl [A4]; · iexact A4
    isplitl [O4 I4 X4 Y4]
    · isplitl [O4]; · iexact O4
      isplitl [I4]; · iexact I4
      isplitl [X4] <;> iassumption
    iexact HO
  iintro ⟨HO, L4⟩
  iapply (wp_ownCopy m c f) $$ [A5 A6 Hown Hto]
  · isplitr; · iexact He
    isplitl [A5 A6]
    · iapply (cPts_split c shrO (pC m c)).2
      isplitl [A5] <;> iassumption
    isplitl [Hown] <;> iassumption
  iintro Hco
  iapply (wp_hops m c) $$ [L1 L2 L3 L4 HO Hco Hao]
  · isplitr; · iexact He
    isplitl [L1 L2 L3 L4]
    · unfold Sts1
      isplitl [L1]; · iexact L1
      isplitl [L2]; · iexact L2
      isplitl [L3] <;> iassumption
    isplitl [HO]; · iexact HO
    isplitl [Hco] <;> iassumption
  iintro ⟨HO, Hends, Hao, Hpay⟩
  imod (finish m c) $$ [Hends U1 U2 U3 U4 Hao Hab Hpay] with ⟨Hout, Hc, Hz⟩
  · isplitr; · iexact He
    isplitl [Hends]; · iexact Hends
    isplitl [U1 U2 U3 U4]
    · isplitl [U1]; · iexact U1
      isplitl [U2]; · iexact U2
      isplitl [U3] <;> iassumption
    isplitl [Hao]; · iexact Hao
    isplitl [Hab] <;> iassumption
  rw [wp_ret]
  imodintro
  iapply Hk
  unfold done
  isplitl [HO]; · iexact HO
  isplitl [Hout]; · iexact Hout
  isplitl [Hc]; · iexact Hc
  isplitl [Ha]; · iexact Ha
  isplitl [Hb] <;> iassumption

end Cert.KernelIdeal.Ring

end
-- ==== Proof.Deal.lean ====
/-
What the launch deals: the schedule's tokens and positions minted per device, passed around the ring to the devices
that use them, and the credits each device starts with.
-/
module

public import proofs.«01_k».proof.Proof.Body
public import proofs.«01_k».proof.Proof.Gen.KernelIdeal.Launch

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

theorem csem_injective : Function.Injective csem := by
  have key : ∀ k k' : Fin 42, csem k = csem k' → k = k' := by decide +kernel
  exact fun k k' h => key k k' h
theorem kcell_injective : Function.Injective (kcell : Dev nD × Fin 42 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- Tokens by kind: a landing's, a reading's, the barrier's and the own copy's. The last two need few of the
    lane and hop pairs; the others are minted and not used. -/
abbrev Kind : Type := Fin 4 × (Lane × Fin 8)
def tokSem (j : Kind) : SemLoc sig × ℕ × Bool :=
  if j.1 = 0 then (.dma (rSem j.2.1 j.2.2.val), 0, false)
  else if j.1 = 1 then (.dma (sSem j.2.1 j.2.2.val), j.2.2.val / 2, false)
  else if j.1 = 2 then (.reg barS, 2 * j.2.2.val + (if j.2.1.2 then 1 else 0), j.2.1.1)
  else (.dma oSem, 4 * j.2.2.val + (if j.2.1.1 then 2 else 0) + (if j.2.1.2 then 1 else 0), false)
theorem tokSem_injective : Function.Injective tokSem := by
  have key : ∀ a b : Fin 4, ∀ l l' : Lane, ∀ h h' : Fin 8, tokSem (a, l, h) = tokSem (b, l', h') → (a, l, h) = (b, l', h') := by decide +kernel
  rintro ⟨a, l, h⟩ ⟨b, l', h'⟩ e
  exact key a b l l' h h' e
def tokOf (x : Dev nD × Kind) : GSem nD τ sig × ℕ × Bool :=
  (((x.1 : Thread nD τ), (tokSem x.2).1), (tokSem x.2).2)
theorem tokOf_injective : Function.Injective tokOf := by
  rintro ⟨c, j⟩ ⟨c', j'⟩ h
  have h1 : c = c' := congrArg (fun g : GSem nD τ sig × ℕ × Bool => g.1.1.1) h
  have h2 : j = j' := tokSem_injective (congrArg (fun g : GSem nD τ sig × ℕ × Bool => (g.1.2, g.2)) h)
  rw [h1, h2]
def ringToks : Finset (GSem nD τ sig × ℕ × Bool) := Finset.univ.map ⟨tokOf, tokOf_injective⟩

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_lane (Φ : Lane → sProp 𝕄) : bigSep Finset.univ Φ = iprop(Φ (false, false) ∗ Φ (true, false) ∗ Φ (false, true) ∗ Φ (true, true)) :=
  bigSep_univ_eq_bigSepL [(false, false), (true, false), (false, true), (true, true)] (by decide) (by decide) Φ
theorem bigSep_fin8 (A : ℕ → sProp 𝕄) : bigSep Finset.univ (fun h : Fin 8 => A h.val) = bigSep (Finset.range 8) A := by
  rw [show Finset.range 8 = (Finset.univ : Finset (Fin 8)).map Fin.valEmbedding from by decide, bigSep_map]; rfl
theorem range_sub (l : Lane) (A : ℕ → sProp 𝕄) : bigSep Finset.univ (fun h : Fin 8 => A h.val) ⊢ bigSep (Finset.range (len l)) A := by
  rw [bigSep_fin8]
  exact bigSep_subset (Finset.range_subset_range.mpr (len_le l))

/-- The landing tokens of a lane's cells on a device, and its reading tokens. -/
def RT (c : Dev nD) (l : Lane) : sProp 𝕄 := bigSep (Finset.range (len l)) fun h => dutyTok ER (rC c l h) 0 false
def ST (c : Dev nD) (l : Lane) : sProp 𝕄 := bigSep (Finset.range (len l)) fun h => dutyTok ER (sC c l h) (h / 2) false

/-- The tokens of a device's own cells. -/
def mint (c : Dev nD) : sProp 𝕄 :=
  iprop((RT c (false, false) ∗ RT c (true, false) ∗ RT c (false, true) ∗ RT c (true, true))
    ∗ (ST c (false, false) ∗ ST c (true, false) ∗ ST c (false, true) ∗ ST c (true, true))
    ∗ (dutyTok ER (barC c) 0 false ∗ dutyTok ER (barC c) 0 true) ∗ dutyTok ER (oC c) 0 false)
/-- The tokens of the duties a device pays. -/
def pays (c : Dev nD) : sProp 𝕄 :=
  iprop((Toks c (false, false) ∗ Toks c (true, false) ∗ Toks c (false, true) ∗ Toks c (true, true))
    ∗ (dutyTok ER (barC (tgt true c)) 0 false ∗ dutyTok ER (barC (tgt false c)) 0 true) ∗ dutyTok ER (oC c) 0 false)

theorem mint_intro (c : Dev nD) :
    bigSep Finset.univ (fun j : Kind => (dutyTok ER ((c : Thread nD τ), (tokSem j).1) (tokSem j).2.1 (tokSem j).2.2 : sProp 𝕄)) ⊢ mint c := by
  have h0 : bigSep Finset.univ (fun j : Lane × Fin 8 => (dutyTok ER ((c : Thread nD τ), (tokSem (0, j)).1) (tokSem (0, j)).2.1 (tokSem (0, j)).2.2 : sProp 𝕄))
      ⊢ iprop(RT c (false, false) ∗ RT c (true, false) ∗ RT c (false, true) ∗ RT c (true, true)) := by
    rw [bigSep_univ_prod, ← bigSep_lane fun l => RT c l]
    exact bigSep_mono fun l _ => range_sub l fun h => dutyTok ER (rC c l h) 0 false
  have h1 : bigSep Finset.univ (fun j : Lane × Fin 8 => (dutyTok ER ((c : Thread nD τ), (tokSem (1, j)).1) (tokSem (1, j)).2.1 (tokSem (1, j)).2.2 : sProp 𝕄))
      ⊢ iprop(ST c (false, false) ∗ ST c (true, false) ∗ ST c (false, true) ∗ ST c (true, true)) := by
    rw [bigSep_univ_prod, ← bigSep_lane fun l => ST c l]
    exact bigSep_mono fun l _ => range_sub l fun h => dutyTok ER (sC c l h) (h / 2) false
  have h2 : bigSep Finset.univ (fun j : Lane × Fin 8 => (dutyTok ER ((c : Thread nD τ), (tokSem (2, j)).1) (tokSem (2, j)).2.1 (tokSem (2, j)).2.2 : sProp 𝕄))
      ⊢ iprop(dutyTok ER (barC c) 0 false ∗ dutyTok ER (barC c) 0 true) := by
    rw [bigSep_univ_at _ (((false, false), 0) : Lane × Fin 8)]
    exact sep_mono_right (bigSep_elim (i := (((true, false), 0) : Lane × Fin 8)) (by decide +kernel))
  have h3 : bigSep Finset.univ (fun j : Lane × Fin 8 => (dutyTok ER ((c : Thread nD τ), (tokSem (3, j)).1) (tokSem (3, j)).2.1 (tokSem (3, j)).2.2 : sProp 𝕄))
      ⊢ dutyTok ER (oC c) 0 false := bigSep_elim (i := (((false, false), 0) : Lane × Fin 8)) (Finset.mem_univ _)
  rw [bigSep_univ_prod, bigSep_fin4]
  unfold mint
  iintro ⟨H0, H1, H2, H3⟩
  isplitl [H0]; · iapply h0; iexact H0
  isplitl [H1]; · iapply h1; iexact H1
  isplitl [H2]; · iapply h2; iexact H2
  iapply h3; iexact H3

/-- The ring turned one place. -/
def turn (d : Bool) : Dev nD ≃ Dev nD := ⟨tgt d, tgt (!d), fun c => tgt_tgt d c, fun c => tgt_pred d c⟩

theorem Toks_eq (c : Dev nD) (l : Lane) : (Toks c l : sProp 𝕄) = iprop(ST c l ∗ RT (tgt l.1 c) l) := by
  unfold Toks ST RT; rw [bigSep_sep']

/-- The tokens passed around: each goes to the device that pays its duty. -/
theorem pass : (bigSep Finset.univ fun c : Dev nD => (mint c : sProp 𝕄)) ⊢ bigSep Finset.univ fun c : Dev nD => pays c := by
  unfold mint pays
  simp only [Toks_eq]
  simp only [bigSep_sep']
  rw [bigSep_univ_equiv (turn false) (fun c : Dev nD => (RT c (false, false) : sProp 𝕄)),
    bigSep_univ_equiv (turn true) (fun c : Dev nD => (RT c (true, false) : sProp 𝕄)),
    bigSep_univ_equiv (turn false) (fun c : Dev nD => (RT c (false, true) : sProp 𝕄)),
    bigSep_univ_equiv (turn true) (fun c : Dev nD => (RT c (true, true) : sProp 𝕄)),
    bigSep_univ_equiv (turn true) (fun c : Dev nD => (dutyTok ER (barC c) 0 false : sProp 𝕄)),
    bigSep_univ_equiv (turn false) (fun c : Dev nD => (dutyTok ER (barC c) 0 true : sProp 𝕄))]
  iintro ⟨⟨R1, R2, R3, R4⟩, ⟨S1, S2, S3, S4⟩, ⟨B1, B2⟩, O⟩
  isplitl [R1 R2 R3 R4 S1 S2 S3 S4]
  · isplitl [S1 R1]; · isplitl [S1]; · iexact S1
                       iexact R1
    isplitl [S2 R2]; · isplitl [S2]; · iexact S2
                       iexact R2
    isplitl [S3 R3]; · isplitl [S3]; · iexact S3
                       iexact R3
    isplitl [S4]; · iexact S4
    iexact R4
  isplitl [B1 B2]
  · isplitl [B1]; · iexact B1
    iexact B2
  iexact O

/-! ## The credits -/

theorem rC_eq {a b : Dev nD} {l l' : Lane} {h h' : ℕ} (hh : h < 8) (hh' : h' < 8) (e : rC a l h = rC b l' h') : a = b ∧ l = l' ∧ h = h' := by
  have e1 : a = b := congrArg (fun g : GSem nD τ sig => g.1.1) e
  have e2 : rSem l h = rSem l' h' := SemLoc.dma.inj (congrArg Prod.snd e)
  have e3 : Role.rcv l h = Role.rcv l' h' := by rw [← role_rcv l hh, ← role_rcv l' hh', e2]
  exact ⟨e1, (Role.rcv.inj e3).1, (Role.rcv.inj e3).2⟩

theorem sum_at (s : Finset ℕ) (A : ℕ → CellTallies nD τ sig Unit) (g : GSem nD τ sig) : (∑ h ∈ s, A h) g () = ∑ h ∈ s, A h g () := by
  rw [Finset.sum_apply, Finsupp.finset_sum_apply]

theorem owe_at (d c : Dev nD) (l l' : Lane) {h : ℕ} (hh : h < len l) : owe d l' 0 (rC c l h) () = if l' = l ∧ tgt l'.1 d = c then N else 0 := by
  have h8 := len_le l
  have h8' := len_le l'
  unfold owe
  rw [sum_at]
  by_cases e : l' = l ∧ tgt l'.1 d = c
  · obtain ⟨rfl, rfl⟩ := e
    rw [if_pos ⟨rfl, rfl⟩, Finset.sum_eq_single h]
    · rw [tallyAt_apply, if_pos ⟨rfl, rfl⟩]
    · intro h' hm hne
      rw [tallyAt_apply, if_neg]
      exact fun e => hne (rC_eq (by omega) (by have := (Finset.mem_Ico.mp hm).2; omega) e.1).2.2.symm
    · intro hn; exact absurd (Finset.mem_Ico.mpr ⟨Nat.zero_le _, hh⟩) hn
  · rw [if_neg e]
    refine Finset.sum_eq_zero fun h' hm => ?_
    rw [tallyAt_apply, if_neg]
    intro e'
    obtain ⟨e1, e2, -⟩ := rC_eq (by omega) (by have := (Finset.mem_Ico.mp hm).2; omega) e'.1
    exact e ⟨e2.symm, e1.symm⟩

theorem owe_bar (d c : Dev nD) (l : Lane) : owe d l 0 (barC c) () = 0 := by
  unfold owe
  rw [sum_at]
  refine Finset.sum_eq_zero fun h' hm => ?_
  rw [tallyAt_apply, if_neg]
  intro e; cases congrArg Prod.snd e.1

theorem bar_at (d c : Dev nD) (k : ℕ) : tallyAt (barC d) () k (barC c) () = if d = c then k else 0 := by
  rw [tallyAt_apply]
  by_cases h : d = c
  · subst h; rw [if_pos ⟨rfl, rfl⟩, if_pos rfl]
  · rw [if_neg (fun e => h (congrArg (fun g : GSem nD τ sig => g.1.1) e.1).symm), if_neg h]
theorem bar_rcv (d c : Dev nD) (l : Lane) (h k : ℕ) : tallyAt (barC d) () k (rC c l h) () = 0 := by
  rw [tallyAt_apply, if_neg]
  intro e; cases congrArg Prod.snd e.1

theorem O₀_at (d : Dev nD) (g : GSem nD τ sig) : O₀ d g () = (((owe d (false, false) 0 g () + owe d (true, false) 0 g ()) + owe d (false, true) 0 g ())
    + owe d (true, true) 0 g ()) + tallyAt (barC (tgt false d)) () 1 g () + tallyAt (barC (tgt true d)) () 1 g () := by
  unfold O₀ tot
  simp only [Pi.add_apply, Finsupp.add_apply]

theorem O₀_bar (d c : Dev nD) : O₀ d (barC c) () = (if tgt false d = c then 1 else 0) + (if tgt true d = c then 1 else 0) := by
  rw [O₀_at, owe_bar, owe_bar, owe_bar, owe_bar, bar_at, bar_at, Nat.zero_add]
theorem O₀_rcv (d c : Dev nD) (l : Lane) {h : ℕ} (hh : h < len l) : O₀ d (rC c l h) () = if tgt l.1 d = c then N else 0 := by
  rw [O₀_at, owe_at d c l _ hh, owe_at d c l _ hh, owe_at d c l _ hh, owe_at d c l _ hh, bar_rcv, bar_rcv]
  rcases l with ⟨_ | _, _ | _⟩ <;> simp

theorem sum_tgt (d : Bool) (c : Dev nD) (k : ℕ) : (∑ x : Dev nD, if tgt d x = c then k else 0) = k := by
  rw [Finset.sum_eq_single (tgt (!d) c)]
  · rw [if_pos (tgt_pred d c)]
  · intro x _ hx
    rw [if_neg]
    exact fun e => hx (by rw [← e, tgt_tgt])
  · exact fun h => absurd (Finset.mem_univ _) h

/-- A cell's launch credit. -/
def lcred (g : GSem nD τ sig) : sProp 𝕄 := cred (tallyOn g (launchCredit (Pipeline.owing O₀) 0 g))

theorem lcred_bar (c : Dev nD) : (lcred (barC c) : sProp 𝕄) = cred (tallyAt (barC c) () 2) := by
  unfold lcred tallyAt
  refine congrArg _ (congrArg _ (Finsupp.ext fun u => ?_)); cases u
  rw [Pipeline.launchCredit_owing, Finsupp.single_eq_same, Finset.sum_congr rfl fun d _ => O₀_bar d c, Finset.sum_add_distrib, sum_tgt, sum_tgt]
theorem lcred_rcv (c : Dev nD) (l : Lane) {h : ℕ} (hh : h < len l) : (lcred (rC c l h) : sProp 𝕄) = cred (tallyAt (rC c l h) () N) := by
  unfold lcred tallyAt
  refine congrArg _ (congrArg _ (Finsupp.ext fun u => ?_)); cases u
  rw [Pipeline.launchCredit_owing, Finsupp.single_eq_same, Finset.sum_congr rfl fun d _ => O₀_rcv d c l hh, sum_tgt]

/-- The credits of a lane's landings. -/
def CR (c : Dev nD) (l : Lane) : sProp 𝕄 := bigSep (Finset.range (len l)) fun h => cred (tallyAt (rC c l h) () N)

theorem lane_creds (c : Dev nD) (l : Lane) : LaneC c l (lcred : GSem nD τ sig → sProp 𝕄) ⊢ CR c l := by
  unfold LaneC CR
  rw [range_len l, bigSep_congr (s := Finset.range (len l)) fun h hh => lcred_rcv c l (Finset.mem_range.mp hh)]
  iintro ⟨-, -, H, -⟩
  iexact H

theorem creds (c : Dev nD) : (Pipeline.launchCred O₀ c : sProp 𝕄)
    ⊢ iprop(cred (tallyAt (barC c) () 2) ∗ CR c (false, false) ∗ CR c (true, false) ∗ CR c (false, true) ∗ CR c (true, true)) := by
  have h : (Pipeline.launchCred O₀ c : sProp 𝕄) ⊢ bigSep Finset.univ fun k : Fin 42 => lcred (kcell (c, k)) := by
    rw [← bigSep_image_of_injOn (f := csem) (csem_injective.injOn) fun sm => (lcred ((c : Thread nD τ), sm) : sProp 𝕄)]
    exact bigSep_subset (Finset.subset_univ _)
  refine h.trans ?_
  rw [all_cells c lcred, lcred_bar]
  iintro ⟨Hb, -, H1, H2, H3, H4⟩
  isplitl [Hb]; · iexact Hb
  isplitl [H1]; · iapply (lane_creds c (false, false)); iexact H1
  isplitl [H2]; · iapply (lane_creds c (true, false)); iexact H2
  isplitl [H3]; · iapply (lane_creds c (false, true)); iexact H3
  iapply (lane_creds c (true, true)); iexact H4

/-! ## What a device starts from, put together -/

/-- A device's positions. -/
def poss (c : Dev nD) : sProp 𝕄 := bigSep Finset.univ fun k : Fin 42 => atPos ER (kcell (c, k)) 0 ∅ 0

theorem lane_in (c : Dev nD) (l : Lane) : iprop(LaneC c l (fun g => (atPos ER g 0 ∅ 0 : sProp 𝕄)) ∗ CR c l ∗ Toks c l) ⊢ Lin c l := by
  unfold LaneC Lin CR In In1 Un
  rw [range_len l, bigSep_sep', ← Finset.range_eq_Ico]
  iintro ⟨⟨H0, H1, Hr, Hu⟩, Hc, Ht⟩
  isplitl [Hr Hc]
  · isplitl [Hc]; · iexact Hc
    iexact Hr
  isplitl [Hu]; · iexact Hu
  isplitl [Ht]; · iexact Ht
  isplitl [H0]; · iexact H0
  iexact H1

theorem start_of (c : Dev nD) : iprop(env m ∗ Pipeline.launchCred O₀ c ∗ poss c ∗ pays c) ⊢ start m c := by
  unfold poss pays start
  rw [all_cells c fun g => (atPos ER g 0 ∅ 0 : sProp 𝕄)]
  iintro ⟨#He, Hcr, ⟨Pb, Po, P1, P2, P3, P4⟩, ⟨T1, T2, T3, T4⟩, ⟨B1, B2⟩, To⟩
  ihave Hcr := (creds (F := F) c) $$ Hcr
  icases Hcr with ⟨Cb, C1, C2, C3, C4⟩
  isplitr; · iexact He
  isplitl [P1 P2 P3 P4 C1 C2 C3 C4 T1 T2 T3 T4]
  · isplitl [P1 C1 T1]
    · iapply (lane_in (F := F) c (false, false)); isplitl [P1]; · iexact P1
      isplitl [C1] <;> iassumption
    isplitl [P2 C2 T2]
    · iapply (lane_in (F := F) c (true, false)); isplitl [P2]; · iexact P2
      isplitl [C2] <;> iassumption
    isplitl [P3 C3 T3]
    · iapply (lane_in (F := F) c (false, true)); isplitl [P3]; · iexact P3
      isplitl [C3] <;> iassumption
    · iapply (lane_in (F := F) c (true, true)); isplitl [P4]; · iexact P4
      isplitl [C4] <;> iassumption
  isplitl [Cb]; · iexact Cb
  isplitl [Pb]; · iexact Pb
  isplitl [Po]; · iexact Po
  isplitl [To]; · iexact To
  isplitl [B1] <;> iassumption

end Cert.KernelIdeal.Ring

end
-- ==== Proof.Launch.lean ====
/-
The run of all sixteen devices: the pipeline's data, the body's obligation, the launch, and what every final state holds.
-/
module

public import proofs.«01_k».proof.Proof.Deal
public import Idealize.ShloMosaic.Lib.Pipeline.CollectiveSegs

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

variable (ρ : Dev nD → PrngReg)

/-! ## The pipeline's data -/

/-- Before the point: the ghost state, and the result's and the product's buffers. -/
def Φ₀ (c : Dev nD) : sProp 𝕄 :=
  iprop(start m c ∗ (((c : Thread nD τ).loc main_v1) ↦{fullShare} m ((c : Thread nD τ).loc main_v1))
    ∗ ∃ g : (cc0_scratch0 : Ref sig .tc).ty.Contents (Elt F), ((c : Thread nD τ).loc cc0_scratch0) ↦{fullShare} g)
/-- After it: the buffers finished, the cells closed. -/
def Φ₁ (c : Dev nD) : sProp 𝕄 :=
  iprop((((c : Thread nD τ).loc main_v1) ↦{fullShare} fin m) ∗ (((c : Thread nD τ).loc cc0_scratch0) ↦{fullShare} pC m c)
    ∗ bigSep Finset.univ fun k : Fin 42 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => aOf m c
    | ⟨1, _⟩ => bOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 : (cfg0.win (0 : Fin 2)).fetch t0_0 = true := rfl
theorem fetch_1 : (cfg0.win (1 : Fin 2)).fetch t0_0 = true := rfl
theorem before_0 (c : Dev nD) (d) : (dats m 0 c).before (0 : Fin 2) t0_0 d = aOf m c := by
  unfold Dat.before; rw [if_pos (fetch_0)]; rfl
theorem before_1 (c : Dev nD) (d) : (dats m 0 c).before (1 : Fin 2) t0_0 d = bOf m c := by
  unfold Dat.before; rw [if_pos (fetch_1)]; rfl

/-- A window's staging buffer at contents `X`. -/
def stgA (c : Dev nD) (X : (cc0_stg0_0 : Ref sig .tc).ty.Contents (Elt F)) : sProp 𝕄 :=
  iprop(∃ f : (cc0_stg0_0 : Ref sig .tc).ty.Contents (Elt F), ⌜f = X⌝ ∗ (((c : Thread nD τ).loc cc0_stg0_0) ↦{fullShare} f))
def stgB (c : Dev nD) (X : (cc0_stg1_0 : Ref sig .tc).ty.Contents (Elt F)) : sProp 𝕄 :=
  iprop(∃ f : (cc0_stg1_0 : Ref sig .tc).ty.Contents (Elt F), ⌜f = X⌝ ∗ (((c : Thread nD τ).loc cc0_stg1_0) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ (((c : Thread nD τ).loc b) ↦{fullShare} f)) := by
  show iprop(∃ f : b.ty.Contents (Elt F), ⌜(View.whole b).read (Elt F) f = X⌝ ∗ (((c : Thread nD τ).loc b) ↦[(View.whole b).set]{fullShare} f)) = _
  rw [View.set_whole]
  exact congrArg _ (funext fun f => by rw [View.read_whole])

def bodyPre (c : Dev nD) : sProp 𝕄 :=
  iprop(Φ₀ m c ∗ (dats m 0 c).owesAt () t0_0.castSucc
    ∗ (∃ d, stgA c ((dats m 0 c).before (0 : Fin 2) t0_0 d))
    ∗ (∃ d, stgB c ((dats m 0 c).before (1 : Fin 2) t0_0 d)))
def bodyPost (c : Dev nD) : sProp 𝕄 :=
  iprop(Φ₁ m c ∗ (dats m 0 c).owesAt () t0_0.succ ∗ stgA c (aOf m c) ∗ stgB c (bOf m c))

/-- One device's body, from the pipeline's holdings before the point to those after it. -/
theorem wp_body (c : Dev nD) : bodyPre m c ⊢ WP c (.op .deviceId fun d0 => mainProg d0) (fun _ => bodyPost m c) := by
  unfold bodyPre Φ₀ stgA stgB Dat.owesAt Pipeline.owesWithin
  rw [show (dats m 0 c).owed t0_0.castSucc = O₀ c from rfl]
  iintro ⟨⟨Hs, Hv, ⟨%g, Hg⟩⟩, ⟨%W, -, HO⟩, ⟨%d, %fa, %ha, Ha⟩, ⟨%d', %fb, %hb, Hb⟩⟩
  rw [before_0] at ha
  rw [before_1] at hb
  subst ha hb
  rw [WP, wp_deviceId 𝒱₀ (c : Thread nD τ) none Set.univ]
  iapply (wp_main m c (m ((c : Thread nD τ).loc main_v1)) g) $$ [Hs Hv Hg Ha Hb HO]
  · isplitl [Hs]; · iexact Hs
    isplitl [Hv]; · iexact Hv
    isplitl [Hg]; · iexact Hg
    isplitl [Ha]; · iexact Ha
    isplitl [Hb]; · iexact Hb
    unfold ow
    iexists W
    iexact HO
  unfold done ow bodyPost Φ₁ stgA stgB Dat.owesAt Pipeline.owesWithin
  rw [show (dats m 0 c).owed t0_0.succ = 0 from rfl]
  iintro ⟨⟨%W', HO⟩, Hv, Hg, Ha, Hb, Hz⟩
  isplitl [Hv Hg Hz]
  · isplitl [Hv]; · iexact Hv
    isplitl [Hg]; · iexact Hg
    iexact Hz
  isplitl [HO]
  · iexists W'
    isplitr; · ipureintro; exact fun _ _ => Or.inl trivial
    iexact HO
  isplitl [Ha]
  · iexists _; isplitr; · (ipureintro; rfl)
    iexact Ha
  iexists _; isplitr; · (ipureintro; rfl)
  iexact Hb

/-- The pipeline's obligation on a device. -/
theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole]
  have h := wp_body m c
  rw [← body_eq] at h
  exact h

/-! ## The launch -/

/-- The kernel's own semaphores: all its cells but the barrier. -/
def osem (k : Fin 41) : SemLoc sig := csem k.succ
theorem ownSemFacts : Pipeline.OwnSemFacts cfg0.spec osem := by decide +kernel
theorem share_eq (c : Dev nD) (w : Fin cfg0.W) : (dats m 0 c).share w = fullShare := by unfold Dat.share; split <;> rfl

theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- A device's forty-two counters at zero. -/
theorem sems0_eq (c : Dev nD) :
    (bigSep Finset.univ fun k : Fin 42 => (semVal (kcell (c, k)) 0 : sProp 𝕄))
      = iprop(unscopedSems0 c ∗ Pipeline.ownSems0 (Ix := Unit) (Name := ℕ) (U := UU) (Lvl := ℕ) (Val := Elt F) (τ := τ) osem c) := by
  rw [show (Finset.univ : Finset (Fin 42)) = {0} ∪ Finset.univ.image Fin.succ from by decide +kernel,
    cells_union (by decide +kernel), bigSep_singleton, bigSep_image_of_injOn (Fin.succ_injective 41).injOn, unscopedSems0_eq]
  rfl

/-- The launch's ghost element: the pipeline's, and the schedule's. -/
def u₀ : UU := (initOf (Pipeline.cells cfgs cellOf_inj) (Pipeline.launchToks cfgs cellOf_inj), initOf ringCells ringToks)

/-- What the launch deals a device, -/
def G (c : Dev nD) : sProp 𝕄 :=
  iprop((bigSep Finset.univ fun k : Fin 42 => roundState ER (ringRd m) (kcell (c, k)) 0)
    ∗ (bigSep Finset.univ fun k : Fin 42 => reached ER (kcell (c, k)) 0) ∗ poss c ∗ mint c)
/-- and what the devices together make of it. -/
def G' (c : Dev nD) : sProp 𝕄 := iprop(records m ∗ poss c ∗ pays c)

theorem fund : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 42 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => mint c := by
    unfold ringToks; rw [bigSep_map, bigSep_univ_prod]
    exact bigSep_mono fun c _ => mint_intro c
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := hT $$ Htok
  unfold G poss
  simp only [bigSep_sep']
  isplitl [Hst]; · iexact Hst
  isplitl [Hr]; · iexact Hr
  isplitl [Hat] <;> iassumption

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 42 => cellRec m (kcell (c, k))) ∗ poss c ∗ mint c) := by
  have hk (k : Fin 42) : iprop(semVal (kcell (c, k)) 0 ∗ roundState ER (ringRd m) (kcell (c, k)) 0)
      ⊢ (iprop(|={Set.univ}=> ∃ κ : ℕ, cellInv ER (ringRd m) κ (kcell (c, k))) : sProp 𝕄) :=
    (Rounds.body_intro ER (ringRd m) (kcell (c, k))).trans inv_alloc
  have ha : iprop((bigSep Finset.univ fun k : Fin 42 => (semVal (kcell (c, k)) 0 : sProp 𝕄)) ∗ bigSep Finset.univ fun k : Fin 42 => roundState ER (ringRd m) (kcell (c, k)) 0)
      ⊢ (iprop(|={Set.univ}=> bigSep Finset.univ fun k : Fin 42 => iprop(∃ κ : ℕ, cellInv ER (ringRd m) κ (kcell (c, k)))) : sProp 𝕄) := by
    rw [← bigSep_sep']
    exact (bigSep_mono fun k _ => hk k).trans (bigSep_fupd _ _)
  have hc : iprop((bigSep Finset.univ fun k : Fin 42 => (iprop(∃ κ : ℕ, cellInv ER (ringRd m) κ (kcell (c, k))) : sProp 𝕄)) ∗ bigSep Finset.univ fun k : Fin 42 => reached ER (kcell (c, k)) 0)
      ⊢ bigSep Finset.univ fun k : Fin 42 => cellRec m (kcell (c, k)) := by
    rw [← bigSep_sep']
    refine bigSep_mono fun k _ => ?_
    show (_ : sProp 𝕄) ⊢ cellRec m (kcell (c, k))
    unfold cellRec
    iintro ⟨⟨%κ, H⟩, Hr⟩
    iexists κ
    isplitl [H] <;> iassumption
  unfold G
  iintro ⟨Hos, Hus, Hst, Hr, Hp, Ht⟩
  imod ha $$ [Hos Hus Hst] with HI
  · rw [sems0_eq]
    isplitl [Hos Hus]
    · isplitl [Hus]; · iexact Hus
      iexact Hos
    iexact Hst
  imodintro
  isplitl [HI Hr]
  · iapply hc
    isplitl [HI] <;> iassumption
  isplitl [Hp] <;> iassumption

theorem regroup : (bigSep Finset.univ fun c : Dev nD => iprop((bigSep Finset.univ fun k : Fin 42 => cellRec m (kcell (c, k))) ∗ poss c ∗ mint c) : sProp 𝕄)
    ⊢ bigSep Finset.univ (G' m) := by
  have e : (bigSep Finset.univ fun c : Dev nD => bigSep Finset.univ fun k : Fin 42 => cellRec m (kcell (c, k)) : sProp 𝕄) = records m := by
    unfold records
    rw [bigSep_univ_prod]
  rw [bigSep_sep', bigSep_sep', e]
  have h : iprop(records m ∗ bigSep Finset.univ fun c : Dev nD => (iprop(poss c ∗ pays c) : sProp 𝕄)) ⊢ bigSep Finset.univ (G' m) :=
    bigSep_with_persistent fun c _ => by unfold G'; exact Entails.refl _
  iintro ⟨#Hr, Hp, Ht⟩
  ihave Ht := (pass (F := F)) $$ Ht
  iapply h
  isplitr; · iexact Hr
  rw [bigSep_sep']
  isplitl [Hp] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- What a device's kernel is entered with: its ghost state and the result's buffer; -/
def ent (c : Dev nD) : sProp 𝕄 := iprop(start m c ∗ (((c : Thread nD τ).loc main_v1) ↦{fullShare} m ((c : Thread nD τ).loc main_v1)))
/-- and what it leaves: the result and the barrier's counter at zero. -/
def exi (c : Dev nD) : sProp 𝕄 := iprop((((c : Thread nD τ).loc main_v1) ↦{fullShare} fin m) ∗ unscopedSems0 c)

theorem ent_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(ent m c ∗ emp) := by
  rw [Pipeline.unscopedRestP_none, unscopedRest0_eq]
  unfold G' ent
  iintro ⟨Hv, #Hlev, Hcr, -, #Hr, Hp, Ht⟩
  imodintro
  isplitl
  · isplitl [Hcr Hp Ht]
    · iapply (start_of m c)
      unfold env
      isplitr
      · isplitr; · iexact Hr
        iexact Hlev
      isplitl [Hcr]; · iexact Hcr
      isplitl [Hp] <;> iassumption
    iexact Hv
  · iempintro

theorem phi0_intro (c : Dev nD) :
    iprop(ent m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ ent
  iintro ⟨⟨Hs, Hv⟩, -, Hr⟩
  isplitl [Hs]; · iexact Hs
  isplitl [Hv]; · iexact Hv
  iexact Hr

theorem phi1_exit (c : Dev nD) :
    (dats m 0 c).Φ (Fin.last cfg0.N) ⊢ iprop(exi m c ∗ Pipeline.ownSems0 osem c ∗ Pipeline.scopedRest cfg0.spec c) := by
  rw [show (dats m 0 c).Φ (Fin.last cfg0.N) = Φ₁ m c from rfl, scopedRest0_eq]
  unfold Φ₁ exi
  rw [sems0_eq]
  iintro ⟨Hv, Hg, Hu, Ho⟩
  isplitl [Hv Hu]; · isplitl [Hv] <;> iassumption
  isplitl [Ho]; · iexact Ho
  iexists (pC m c)
  iexact Hg

theorem waits (c : Dev nD) : (levAts L lv : sProp 𝕄) ⊢ Pipeline.cellsWaits cfgs (dats m) () 0 c :=
  Pipeline.cellsWaits_intro cfgs (dats m) () 0 c fun w s t => by
    have hl : ∀ (w : Fin cfg0.W) (s : Fin (cfg0.win w).nbuf), lv ((c : Thread nD τ), .dma ((cfg0.win w).sem s)) () = 0 := by
      intro w s
      have key : ∀ (w : Fin cfg0.W) (s : Fin (cfg0.win w).nbuf), roleOf ((cfg0.win w).sem s) = .other := by decide +kernel
      show roleLev (roleOf ((cfg0.win w).sem s)) = 0
      rw [key]; rfl
    have hO : Above 1 ((dats m 0 c).owed t) := by
      rcases t with ⟨_ | _, ht⟩
      · exact O₀_above c
      · exact Above.zero 1
    exact mayWait (by rw [show lv ((c : Thread nD τ), .dma ((cfg0.win w).sem s)) () = 0 from hl w s]; exact Nat.one_pos) hO

/-- What is left, read off the final state. -/
theorem exi_read (c : Dev nD) (s' : Phys nD τ sig (Elt F)) : iprop(exi m c ∗ emp ∗ SI s')
    ⊢ (iprop(|={Set.univ}=> (⌜s'.mem.mem ((c : Thread nD τ).loc main_v1) = fin m
        ∧ ∀ sm : SemLoc sig, sm.isScoped .tc = false → s'.mem.sem ((c.tc : Thread nD τ), sm) = 0⌝ ∗ SI s')) : sProp 𝕄) := by
  unfold exi
  iintro ⟨⟨Hv, Hu⟩, -, HSI⟩
  ihave %hv := (SI_pointsTo_agree (st := s') (ℓ := ((c : Thread nD τ).loc main_v1)) (I := Finset.univ) (q := fullShare) (f := fin m)) $$ [HSI Hv]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨funext fun i => hv i (Finset.mem_univ i), hs⟩
  iexact HSI

/-! ## The run -/

/-- From any memory with counters at zero every run ends, with the result at `fin` on each device, the inputs as they
    were and every counter at zero. -/
theorem run_main : θ_run defs (onTc (τ := τ) (main (F := F))) (⟨m, fun _ => 0, ρ⟩ : MemSt nD τ sig (Elt F)) (fun r =>
    (∀ c : Dev nD, r.2.mem ((c : Thread nD τ).loc main_v1) = fin m
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := ent m) (Y := exi m) (Z := fun _ => iprop(emp))
    (hX := ent_intro m ρ) (hin := phi0_intro m) (hout := phi1_exit m)
    (QY := fun c s => s.mem ((c : Thread nD τ).loc main_v1) = fin m ∧ ∀ sm : SemLoc sig, sm.isScoped .tc = false → s.sem ((c.tc : Thread nD τ), sm) = 0)
    (hY := exi_read m)
    (hQ := fun s h hs => ⟨fun c => ⟨(h c).2.2.1, by
        have := (h c).1 (0 : Fin 2)
        exact this.trans ((dats (F := F) m 0 c).arrAt_in (0 : Fin 2) rfl _), by
        have := (h c).1 (1 : Fin 2)
        exact this.trans ((dats (F := F) m 0 c).arrAt_in (1 : Fin 2) rfl _)⟩, sem_eq_zero hs fun c => (h c).2.2.2⟩)

end Cert.KernelIdeal.Ring

end
-- ==== Proof.Ref.lean ====
/-
The reference's run: two operations on one device, the product and its rounding.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

abbrev dims : DotDims S32768x1024 S1024x2048 S32768x2048 := dot_S32768x1024_S1024x2048_S32768x2048_1_0_0_1_n_n

/-- The reference's result from its arguments. -/
def whole (a : FVec F S32768x1024 .bf16) (b : FVec F S1024x2048 .bf16) : FVec F S32768x2048 .bf16 :=
  truncf .bf16 (Host.dotGeneral dims none a b : FVec F S32768x2048 .f32) bitsLt_bf16_f32

/-- Its two operations. -/
def ops : List (HloOp τ sig (Elt F)) :=
  [ binary main_arg0 main_arg1 main_v0 (fun l r => (Host.dotGeneral dims none l r : FVec F S32768x2048 .f32)),
    unary main_v0 main_v1 (fun v => (truncf .bf16 (v : FVec F S32768x2048 .f32) bitsLt_bf16_f32 : FVec F S32768x2048 .bf16)) ]

theorem main_ops (c : Dev nD) : main (F := F) c = seq ops := rfl

theorem after_v1 (V : Valuation τ sig (Elt F)) : after ops V (main_v1 : DevRef τ sig) = whole (V (main_arg0 : DevRef τ sig)) (V (main_arg1 : DevRef τ sig)) := by
  unfold ops
  after_results
  rfl
theorem after_arg0 (V : Valuation τ sig (Elt F)) : after ops V (main_arg0 : DevRef τ sig) = V (main_arg0 : DevRef τ sig) := by
  unfold ops
  after_results
theorem after_arg1 (V : Valuation τ sig (Elt F)) : after ops V (main_arg1 : DevRef τ sig) = V (main_arg1 : DevRef τ sig) := by
  unfold ops
  after_results

theorem no_scoped_refs : (Finset.univ.filter fun b : Ref sig .tc => b.isScoped) = ∅ := by decide
theorem no_scoped_sems : (Finset.univ.filter fun sm : SemLoc sig => sm.isScoped .tc) = ∅ := by decide
theorem ops_bufs : (ops : List (HloOp τ sig (Elt F))).Forall fun op => op.bufs ⊆ tcRefs τ sig :=
  ⟨binary_bufs_sub .., unary_bufs_sub ..⟩

/-- Every run ends with the result at `whole` of the arguments, and the arguments as they were. -/
theorem run_host (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = whole (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c main_v1).trans (after_v1 _), (h c main_arg0).trans (after_arg0 _), (h c main_arg1).trans (after_arg1 _)⟩,
      sem_eq_zero_of_no_sems (by decide) r.2⟩)
    (run_seq no_scoped_refs no_scoped_sems defs main (fun _ => ops) main_ops (fun _ => ops_bufs) m ρ)

end Cert.ReferenceIdeal.Host

end
-- ==== Proof.Value.lean ====
/-
The result's contents at the ideal values: each element is a row of the left operand against a column of the right,
and so is the reference's.
-/
module

public import proofs.«01_k».proof.Proof.Views
public import proofs.«01_k».proof.Proof.Ref
public import Idealize.ShloMosaic.Lib.MatmulPlain
public import Idealize.ShloMosaic.Lib.StackMember
public import Idealize.ShloMosaic.Lib.Pipeline.Value
public import Idealize.ShloMosaic.Lib.Layout
public import Idealize.ShloMosaic.PureOps.Ideal.Laws

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx

theorem half_dims : dot_S1024x1024_S1024x2048_S1024x2048_1_0_0_1_n_n = DotDims.plain 1024 1024 2048 := rfl
theorem whole_dims : ReferenceIdeal.Host.dims = DotDims.plain 32768 1024 2048 := rfl

/-- An element of a half: row `1024·j + r` of `a` against column `k` of `b`. -/
theorem payC_at (j : Bool) (a : FVec Ideal S2048x1024 .bf16) (b : FVec Ideal S1024x2048 .bf16) (r : Fin 1024) (k : Fin 2048)
    (R : Fin 2048) (hR : R.val = (if j then 1024 else 0) + r.val) :
    payC (F := Ideal) j a b (ix2 r k) = ∑ t : Fin 1024, a (ix2 R t) * b (ix2 t k) := by
  unfold payC
  rw [shapeCast_self, shapeCast_self, shapeCast_self, half_dims]
  refine (Ideal.matmul_plain_apply (φ₁ := .bf16) (φ₂ := .bf16) none (extractStridedSlice S1024x1024 (offC j) a (offC_slices j)) b (constant S1024x2048 .f32 0x00000000#32) r k).trans ?_
  have hz : (constant S1024x2048 .f32 0x00000000#32 : FVec Ideal S1024x2048 .f32) (ix2 r k) = 0 := Ideal.ofBits_zero_f32
  rw [hz, zero_add]
  refine Finset.sum_congr rfl fun t _ => ?_
  congr 1
  refine extractStridedSlice_apply (offC j) a (offC_slices j) (ix2 r t) (ix2 R t) fun x => ?_
  fin_cases x
  · exact hR
  · exact (Nat.zero_add _).symm

/-- An element of the reference's result. -/
theorem whole_at (a : FVec Ideal ReferenceIdeal.S32768x1024 .bf16) (b : FVec Ideal ReferenceIdeal.S1024x2048 .bf16) (r : Fin 32768) (k : Fin 2048) :
    ReferenceIdeal.Host.whole (F := Ideal) a b (ix2 r k) = ∑ t : Fin 1024, a (ix2 r t) * b (ix2 t k) := by
  unfold ReferenceIdeal.Host.whole
  rw [whole_dims]
  exact StackMember.dotGeneral_plain_apply none a b r k

variable (m : (ℓ : Loc nD τ sig) → Buf (Elt Ideal) ℓ)

/-- The staging buffers hold the arguments themselves. -/
theorem aOf_eq (o : Dev nD) : aOf m o = m ((o : Thread nD τ).loc main_arg0) := by
  funext x
  refine congrArg (m ((o : Thread nD τ).loc main_arg0)) (?_ : ((win0_0.blk (0 : Fin 1)).view.emb x : S2048x1024.Idx) = x)
  funext a
  refine Fin.ext ?_
  fin_cases a
  · show 0 * 2048 + 1 * (x 0).val = (x 0).val
    omega
  · show 0 * 1024 + 1 * (x 1).val = (x 1).val
    omega
theorem bOf_eq (o : Dev nD) : bOf m o = m ((o : Thread nD τ).loc main_arg1) := by
  funext x
  refine congrArg (m ((o : Thread nD τ).loc main_arg1)) (?_ : ((win0_1.blk (0 : Fin 1)).view.emb x : S1024x2048.Idx) = x)
  funext a
  refine Fin.ext ?_
  fin_cases a
  · show 0 * 1024 + 1 * (x 0).val = (x 0).val
    omega
  · show 0 * 2048 + 1 * (x 1).val = (x 1).val
    omega

/-- With the left operand cut by rows over the devices and the right the same on each, the result is the reference's. -/
theorem fin_whole (A : FVec Ideal ReferenceIdeal.S32768x1024 .bf16) (B : FVec Ideal ReferenceIdeal.S1024x2048 .bf16)
    (hT : Layout.Tiles ⟨2, ![2048, 1024]⟩ ⟨2, ![32768, 1024]⟩ 0 16)
    (hA : ∀ c : Dev nD, m ((c : Thread nD τ).loc main_arg0) = Layout.block ⟨2, ![2048, 1024]⟩ ⟨2, ![32768, 1024]⟩ 0 16 c A hT)
    (hB : ∀ c : Dev nD, m ((c : Thread nD τ).loc main_arg1) = B) : fin m = ReferenceIdeal.Host.whole (F := Ideal) A B := by
  funext y
  have hy : (y 0).val < 32768 := (y 0).isLt
  have e1 : inHalf y = ix2 (⟨(y 0).val % 1024, Nat.mod_lt _ (by decide)⟩ : Fin 1024) (y 1 : Fin 2048) := by
    funext a; fin_cases a <;> rfl
  have e2 : y = ix2 (y 0 : Fin 32768) (y 1 : Fin 2048) := by
    funext a; fin_cases a <;> rfl
  have hR : (y 0).val % 2048 = (if halfOf y then 1024 else 0) + (y 0).val % 1024 := by
    unfold halfOf
    by_cases h : 1024 ≤ (y 0).val % 2048
    · rw [decide_eq_true h]; simp only [if_true]; omega
    · rw [decide_eq_false h]; simp only [Bool.false_eq_true, if_false]; omega
  unfold fin
  rw [aOf_eq, bOf_eq, hA, hB, e1]
  refine (payC_at (halfOf y) _ _ _ _ ⟨(y 0).val % 2048, Nat.mod_lt _ (by decide)⟩ hR).trans ?_
  refine Eq.trans ?_ ((whole_at A B (y 0 : Fin 32768) (y 1 : Fin 2048)).symm.trans (congrArg (ReferenceIdeal.Host.whole (F := Ideal) A B) e2.symm))
  refine Finset.sum_congr rfl fun t _ => ?_
  congr 1
  refine congrArg A (?_ : hT.idx (blkOf y) _ = _)
  funext a
  refine Fin.ext ?_
  fin_cases a
  · refine (Layout.idx_rows_val hT (blkOf y) _).1.trans ?_
    show (y 0).val / 2048 * 2048 + (y 0).val % 2048 = (y 0).val
    omega
  · rfl

end Cert.KernelIdeal.Ring

end
-- ==== Proof.lean ====
/-
The five claims: the kernel, its idealized program and the reference each run to their end with the arguments as they
were and no semaphore counted up; nothing is replaced between the kernel and its idealized program; and the idealized
program's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.K.Launch
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem Cert.Kernel

theorem kernel_quiescent : quiescent_Kernel (hKernel := Cert.Kernel.Gen.facts) := fun m g _ =>
  (θ_run _ _ _).mono (fun r h => ⟨fun c => (h.1 c).2, h.2⟩) (Cert.Kernel.Ring.run_main (F := Bits) m g)

theorem ideal_quiescent : quiescent_KernelIdeal (hKernelIdeal := Cert.KernelIdeal.Gen.facts) := fun m g _ =>
  (θ_run _ _ _).mono (fun r h => ⟨fun c => (h.1 c).2, h.2⟩) (Cert.KernelIdeal.Ring.run_main (F := Ideal) m g)

theorem reference_quiescent : quiescent_ReferenceIdeal (hReferenceIdeal := Cert.ReferenceIdeal.Gen.facts) := fun m g _ =>
  (θ_run _ _ _).mono (fun r h => ⟨fun c => (h.1 c).2, h.2⟩) (Cert.ReferenceIdeal.Host.run_host (F := Ideal) m g)

theorem ideal_agrees : algebraic_KernelIdeal_ReferenceIdeal (hKernelIdeal := Cert.KernelIdeal.Gen.facts) (hReferenceIdeal := Cert.ReferenceIdeal.Gen.facts) :=
  fun m g m' g' _ hargs =>
    ⟨Cert.ReferenceIdeal.Host.whole (F := Ideal) _ _,
      (θ_run _ _ _).mono (fun r h c => ⟨(h.1 c).1.trans (Cert.KernelIdeal.Ring.fin_whole m _ _ _ (fun c => (hargs c).1) (fun c => (hargs c).2)), (h.1 c).2⟩)
        (Cert.KernelIdeal.Ring.run_main (F := Ideal) m g),
      (θ_run _ _ _).mono (fun r h => h.1 0) (Cert.ReferenceIdeal.Host.run_host (F := Ideal) m' g')⟩

theorem claim : Cert.Claim := ⟨Cert.Kernel.Gen.facts, Cert.KernelIdeal.Gen.facts, Cert.ReferenceIdeal.Gen.facts,
  kernel_quiescent, ideal_quiescent, reference_quiescent, trivial, ideal_agrees⟩

end Cert.Proof

end
